-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200 : Shape := ⟨2, ![16384, 200]⟩
abbrev S2x2 : Shape := ⟨2, ![2, 2]⟩
abbrev S4 : Shape := ⟨1, ![4]⟩
abbrev S_ : Shape := ⟨0, ![]⟩
abbrev S12 : Shape := ⟨1, ![12]⟩
abbrev S16 : Shape := ⟨1, ![16]⟩
abbrev S2x16384 : Shape := ⟨2, ![2, 16384]⟩
abbrev S512 : Shape := ⟨1, ![512]⟩
abbrev S1 : Shape := ⟨1, ![1]⟩
abbrev S1x512 : Shape := ⟨2, ![1, 512]⟩
abbrev S16384x2 : Shape := ⟨2, ![16384, 2]⟩

abbrev nBuf : Table → Nat
  | .hbm => 9
  | .local .scVector .vmem => 3
  | _ => 0

abbrev bufTy : (tb : Table) → Fin (nBuf tb) → BufTy
  | .hbm, ⟨0, _⟩ => ⟨S16384x200, .i32⟩
  | .hbm, ⟨1, _⟩ => ⟨S16384x200, .i32⟩
  | .hbm, ⟨2, _⟩ => ⟨S2x2, .f32⟩
  | .hbm, ⟨3, _⟩ => ⟨S4, .f32⟩
  | .hbm, ⟨4, _⟩ => ⟨S_, .f32⟩
  | .hbm, ⟨5, _⟩ => ⟨S12, .f32⟩
  | .hbm, ⟨6, _⟩ => ⟨S16, .f32⟩
  | .hbm, ⟨7, _⟩ => ⟨S2x16384, .f32⟩
  | .hbm, ⟨8, _⟩ => ⟨S16384x2, .f32⟩
  | .local .scVector .vmem, ⟨0, _⟩ => ⟨S16, .f32⟩
  | .local .scVector .vmem, ⟨1, _⟩ => ⟨S512, .f32⟩
  | .local .scVector .vmem, ⟨2, _⟩ => ⟨S512, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v23 : BitVec 32 := Scalar.addi c0_i32_0 c32_i32
  let c1_i32_1 : BitVec 32 := 1#32
  ⟨c0_i32_0, v23, c1_i32_1⟩
def k0_off1 (k0_t1 : Fin k0_t1_loop.trips) : Fin 1 → Nat :=
  let c0_i32_0 : BitVec 32 := 0#32
  let c1_i32_1 : BitVec 32 := 1#32
  let arg7 : BitVec 32 := Scf.iv c0_i32_0 c1_i32_1 k0_t1
  let c16_i32_42 : BitVec 32 := 16#32
  let v194 : BitVec 32 := Scalar.muli arg7 c16_i32_42
  let v196 : Index := Scalar.indexCast v194
  ![v196.toNat]
def k0_off2 (i : grid0.Coords) : Fin 2 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off3 (i : grid0.Coords) : Fin 2 → Nat :=
  let c1_i32_4 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![1, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S2x2 : Shape := ⟨2, ![2, 2]⟩
abbrev S_ : Shape := ⟨0, ![]⟩
abbrev S1 : Shape := ⟨1, ![1]⟩
abbrev S2 : Shape := ⟨1, ![2]⟩
abbrev S1x1 : Shape := ⟨2, ![1, 1]⟩
abbrev S1x16384 : Shape := ⟨2, ![1, 16384]⟩
abbrev S16384x2 : Shape := ⟨2, ![16384, 2]⟩
abbrev S16384 : Shape := ⟨1, ![16384]⟩
abbrev S16384x1 : Shape := ⟨2, ![16384, 1]⟩

abbrev nBuf : Space → Nat
  | .hbm => 307
  | .vmem => 0
  | .smem => 0
  | _ => 0

abbrev hbmTy0_0 (i : Nat) : BufTy := match i % 128 with
  | 0 => ⟨S16384x200, .i32⟩
  | 1 => ⟨S16384x200, .i32⟩
  | 2 => ⟨S2x2, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S1x16384, .i64⟩
  | 24 => ⟨S1x16384, .i64⟩
  | 25 => ⟨S_, .i64⟩
  | 26 => ⟨S1x16384, .i64⟩
  | 27 => ⟨S1x16384, .i64⟩
  | 28 => ⟨S_, .i64⟩
  | 29 => ⟨S1x16384, .i64⟩
  | 30 => ⟨S1x16384, .i64⟩
  | 31 => ⟨S1x16384, .i64⟩
  | 32 => ⟨S_, .i64⟩
  | 33 => ⟨S1x16384, .i64⟩
  | 34 => ⟨S1x16384, .i64⟩
  | 35 => ⟨S1x16384, .i32⟩
  | 36 => ⟨S1x16384, .i32⟩
  | 37 => ⟨S_, .i32⟩
  | 38 => ⟨S_, .i32⟩
  | 39 => ⟨S_, .i32⟩
  | 40 => ⟨S1x16384, .i32⟩
  | 41 => ⟨S1x16384, .i32⟩
  | 42 => ⟨S1x16384, .i32⟩
  | 43 => ⟨S1x16384, .i32⟩
  | 44 => ⟨S1x16384, .i32⟩
  | 45 => ⟨S_, .i32⟩
  | 46 => ⟨S1x16384, .i32⟩
  | 47 => ⟨S1x16384, .i32⟩
  | 48 => ⟨S_, .i32⟩
  | 49 => ⟨S1x16384, .i32⟩
  | 50 => ⟨S1x16384, .i32⟩
  | 51 => ⟨S1x16384, .i32⟩
  | 52 => ⟨S1x16384, .i32⟩
  | 53 => ⟨S1x16384, .i32⟩
  | 54 => ⟨S_, .i32⟩
  | 55 => ⟨S1x16384, .i32⟩
  | 56 => ⟨S1x16384, .i32⟩
  | 57 => ⟨S_, .i32⟩
  | 58 => ⟨S1x16384, .i32⟩
  | 59 => ⟨S1x16384, .i32⟩
  | 60 => ⟨S1x16384, .i32⟩
  | 61 => ⟨S1x16384, .i32⟩
  | 62 => ⟨S1x16384, .i32⟩
  | 63 => ⟨S_, .i32⟩
  | 64 => ⟨S1x16384, .i32⟩
  | 65 => ⟨S1x16384, .i32⟩
  | 66 => ⟨S_, .i32⟩
  | 67 => ⟨S1x16384, .i32⟩
  | 68 => ⟨S1x16384, .i32⟩
  | 69 => ⟨S1x16384, .i32⟩
  | 70 => ⟨S1x16384, .i32⟩
  | 71 => ⟨S1x16384, .i32⟩
  | 72 => ⟨S_, .i32⟩
  | 73 => ⟨S1x16384, .i32⟩
  | 74 => ⟨S1x16384, .i32⟩
  | 75 => ⟨S_, .i32⟩
  | 76 => ⟨S1x16384, .i32⟩
  | 77 => ⟨S1x16384, .i32⟩
  | 78 => ⟨S1x16384, .i32⟩
  | 79 => ⟨S1x16384, .i32⟩
  | 80 => ⟨S1x16384, .i32⟩
  | 81 => ⟨S1x16384, .i32⟩
  | 82 => ⟨S1x16384, .i32⟩
  | 83 => ⟨S1x16384, .i32⟩
  | 84 => ⟨S_, .i32⟩
  | 85 => ⟨S1x16384, .i32⟩
  | 86 => ⟨S1x16384, .i32⟩
  | 87 => ⟨S1x16384, .i32⟩
  | 88 => ⟨S_, .i32⟩
  | 89 => ⟨S1x16384, .i32⟩
  | 90 => ⟨S1x16384, .i32⟩
  | 91 => ⟨S_, .i32⟩
  | 92 => ⟨S1x16384, .i32⟩
  | 93 => ⟨S1x16384, .i32⟩
  | 94 => ⟨S1x16384, .i32⟩
  | 95 => ⟨S1x16384, .i32⟩
  | 96 => ⟨S1x16384, .i32⟩
  | 97 => ⟨S_, .i32⟩
  | 98 => ⟨S1x16384, .i32⟩
  | 99 => ⟨S1x16384, .i32⟩
  | 100 => ⟨S_, .i32⟩
  | 101 => ⟨S1x16384, .i32⟩
  | 102 => ⟨S1x16384, .i32⟩
  | 103 => ⟨S1x16384, .i32⟩
  | 104 => ⟨S1x16384, .i32⟩
  | 105 => ⟨S1x16384, .i32⟩
  | 106 => ⟨S_, .i32⟩
  | 107 => ⟨S1x16384, .i32⟩
  | 108 => ⟨S1x16384, .i32⟩
  | 109 => ⟨S_, .i32⟩
  | 110 => ⟨S1x16384, .i32⟩
  | 111 => ⟨S1x16384, .i32⟩
  | 112 => ⟨S1x16384, .i32⟩
  | 113 => ⟨S1x16384, .i32⟩
  | 114 => ⟨S1x16384, .i32⟩
  | 115 => ⟨S_, .i32⟩
  | 116 => ⟨S1x16384, .i32⟩
  | 117 => ⟨S1x16384, .i32⟩
  | 118 => ⟨S_, .i32⟩
  | 119 => ⟨S1x16384, .i32⟩
  | 120 => ⟨S1x16384, .i32⟩
  | 121 => ⟨S1x16384, .i32⟩
  | 122 => ⟨S1x16384, .i32⟩
  | 123 => ⟨S1x16384, .i32⟩
  | 124 => ⟨S1x16384, .i32⟩
  | 125 => ⟨S1x16384, .i32⟩
  | 126 => ⟨S1x16384, .i32⟩
  | 127 => ⟨S_, .i32⟩
  | _ => ⟨S16384x200, .i32⟩

abbrev hbmTy0_1 (i : Nat) : BufTy := match i % 128 with
  | 0 => ⟨S1x16384, .i32⟩
  | 1 => ⟨S1x16384, .i32⟩
  | 2 => ⟨S1x16384, .i32⟩
  | 3 => ⟨S_, .i32⟩
  | 4 => ⟨S1x16384, .i32⟩
  | 5 => ⟨S1x16384, .i32⟩
  | 6 => ⟨S_, .i32⟩
  | 7 => ⟨S1x16384, .i32⟩
  | 8 => ⟨S1x16384, .i32⟩
  | 9 => ⟨S1x16384, .i32⟩
  | 10 => ⟨S1x16384, .i32⟩
  | 11 => ⟨S1x16384, .i32⟩
  | 12 => ⟨S_, .i32⟩
  | 13 => ⟨S1x16384, .i32⟩
  | 14 => ⟨S1x16384, .i32⟩
  | 15 => ⟨S_, .i32⟩
  | 16 => ⟨S1x16384, .i32⟩
  | 17 => ⟨S1x16384, .i32⟩
  | 18 => ⟨S1x16384, .i32⟩
  | 19 => ⟨S1x16384, .i32⟩
  | 20 => ⟨S1x16384, .i32⟩
  | 21 => ⟨S_, .i32⟩
  | 22 => ⟨S1x16384, .i32⟩
  | 23 => ⟨S1x16384, .i32⟩
  | 24 => ⟨S_, .i32⟩
  | 25 => ⟨S1x16384, .i32⟩
  | 26 => ⟨S1x16384, .i32⟩
  | 27 => ⟨S1x16384, .i32⟩
  | 28 => ⟨S1x16384, .i32⟩
  | 29 => ⟨S1x16384, .i32⟩
  | 30 => ⟨S_, .i32⟩
  | 31 => ⟨S1x16384, .i32⟩
  | 32 => ⟨S1x16384, .i32⟩
  | 33 => ⟨S_, .i32⟩
  | 34 => ⟨S1x16384, .i32⟩
  | 35 => ⟨S1x16384, .i32⟩
  | 36 => ⟨S1x16384, .i32⟩
  | 37 => ⟨S1x16384, .i32⟩
  | 38 => ⟨S1x16384, .i32⟩
  | 39 => ⟨S1x16384, .i32⟩
  | 40 => ⟨S1x16384, .i32⟩
  | 41 => ⟨S1x16384, .i32⟩
  | 42 => ⟨S_, .i32⟩
  | 43 => ⟨S1x16384, .i32⟩
  | 44 => ⟨S1x16384, .i32⟩
  | 45 => ⟨S1x16384, .i32⟩
  | 46 => ⟨S_, .i32⟩
  | 47 => ⟨S1x16384, .i32⟩
  | 48 => ⟨S1x16384, .i32⟩
  | 49 => ⟨S_, .i32⟩
  | 50 => ⟨S1x16384, .i32⟩
  | 51 => ⟨S1x16384, .i32⟩
  | 52 => ⟨S1x16384, .i32⟩
  | 53 => ⟨S1x16384, .i32⟩
  | 54 => ⟨S1x16384, .i32⟩
  | 55 => ⟨S_, .i32⟩
  | 56 => ⟨S1x16384, .i32⟩
  | 57 => ⟨S1x16384, .i32⟩
  | 58 => ⟨S_, .i32⟩
  | 59 => ⟨S1x16384, .i32⟩
  | 60 => ⟨S1x16384, .i32⟩
  | 61 => ⟨S1x16384, .i32⟩
  | 62 => ⟨S1x16384, .i32⟩
  | 63 => ⟨S1x16384, .i32⟩
  | 64 => ⟨S_, .i32⟩
  | 65 => ⟨S1x16384, .i32⟩
  | 66 => ⟨S1x16384, .i32⟩
  | 67 => ⟨S_, .i32⟩
  | 68 => ⟨S1x16384, .i32⟩
  | 69 => ⟨S1x16384, .i32⟩
  | 70 => ⟨S1x16384, .i32⟩
  | 71 => ⟨S1x16384, .i32⟩
  | 72 => ⟨S1x16384, .i32⟩
  | 73 => ⟨S_, .i32⟩
  | 74 => ⟨S1x16384, .i32⟩
  | 75 => ⟨S1x16384, .i32⟩
  | 76 => ⟨S_, .i32⟩
  | 77 => ⟨S1x16384, .i32⟩
  | 78 => ⟨S1x16384, .i32⟩
  | 79 => ⟨S1x16384, .i32⟩
  | 80 => ⟨S1x16384, .i32⟩
  | 81 => ⟨S1x16384, .i32⟩
  | 82 => ⟨S1x16384, .i32⟩
  | 83 => ⟨S1x16384, .i32⟩
  | 84 => ⟨S1x16384, .i32⟩
  | 85 => ⟨S_, .i32⟩
  | 86 => ⟨S1x16384, .i32⟩
  | 87 => ⟨S1x16384, .i32⟩
  | 88 => ⟨S1x16384, .i32⟩
  | 89 => ⟨S_, .i32⟩
  | 90 => ⟨S1x16384, .i32⟩
  | 91 => ⟨S1x16384, .i32⟩
  | 92 => ⟨S_, .i32⟩
  | 93 => ⟨S1x16384, .i32⟩
  | 94 => ⟨S1x16384, .i32⟩
  | 95 => ⟨S1x16384, .i32⟩
  | 96 => ⟨S1x16384, .i32⟩
  | 97 => ⟨S1x16384, .i32⟩
  | 98 => ⟨S_, .i32⟩
  | 99 => ⟨S1x16384, .i32⟩
  | 100 => ⟨S1x16384, .i32⟩
  | 101 => ⟨S_, .i32⟩
  | 102 => ⟨S1x16384, .i32⟩
  | 103 => ⟨S1x16384, .i32⟩
  | 104 => ⟨S1x16384, .i32⟩
  | 105 => ⟨S1x16384, .i32⟩
  | 106 => ⟨S1x16384, .i32⟩
  | 107 => ⟨S_, .i32⟩
  | 108 => ⟨S1x16384, .i32⟩
  | 109 => ⟨S1x16384, .i32⟩
  | 110 => ⟨S_, .i32⟩
  | 111 => ⟨S1x16384, .i32⟩
  | 112 => ⟨S1x16384, .i32⟩
  | 113 => ⟨S1x16384, .i32⟩
  | 114 => ⟨S1x16384, .i32⟩
  | 115 => ⟨S1x16384, .i32⟩
  | 116 => ⟨S_, .i32⟩
  | 117 => ⟨S1x16384, .i32⟩
  | 118 => ⟨S1x16384, .i32⟩
  | 119 => ⟨S_, .i32⟩
  | 120 => ⟨S1x16384, .i32⟩
  | 121 => ⟨S1x16384, .i32⟩
  | 122 => ⟨S1x16384, .i32⟩
  | 123 => ⟨S1x16384, .i32⟩
  | 124 => ⟨S1x16384, .i32⟩
  | 125 => ⟨S1x16384, .i32⟩
  | 126 => ⟨S1x16384, .i32⟩
  | 127 => ⟨S1x16384, .i32⟩
  | _ => ⟨S16384x200, .i32⟩

abbrev hbmTy0_2 (i : Nat) : BufTy := match i % 128 with
  | 0 => ⟨S_, .i32⟩
  | 1 => ⟨S1x16384, .i32⟩
  | 2 => ⟨S1x16384, .i32⟩
  | 3 => ⟨S1x16384, .i32⟩
  | 4 => ⟨S_, .i32⟩
  | 5 => ⟨S1x16384, .i32⟩
  | 6 => ⟨S1x16384, .i32⟩
  | 7 => ⟨S_, .i32⟩
  | 8 => ⟨S1x16384, .i32⟩
  | 9 => ⟨S1x16384, .i32⟩
  | 10 => ⟨S1x16384, .f32⟩
  | 11 => ⟨S_, .f32⟩
  | 12 => ⟨S1x16384, .f32⟩
  | 13 => ⟨S1x16384, .f32⟩
  | 14 => ⟨S1x1, .f32⟩
  | 15 => ⟨S1x16384, .f32⟩
  | 16 => ⟨S1x16384, .f32⟩
  | 17 => ⟨S1x16384, .f32⟩
  | 18 => ⟨S1x16384, .f32⟩
  | 19 => ⟨S1x16384, .f32⟩
  | 20 => ⟨S1x16384, .f32⟩
  | 21 => ⟨S_, .f32⟩
  | 22 => ⟨S1x16384, .f32⟩
  | 23 => ⟨S1x16384, .i1⟩
  | 24 => ⟨S1x16384, .i32⟩
  | 25 => ⟨S_, .f32⟩
  | 26 => ⟨S16384x2, .f32⟩
  | 27 => ⟨S16384, .i32⟩
  | 28 => ⟨S16384, .i32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x1, .i32⟩
  | 45 => ⟨S16384x2, .i32⟩
  | 46 => ⟨S_, .f32⟩
  | 47 => ⟨S16384, .f32⟩
  | 48 => ⟨S16384x2, .f32⟩
  | 49 => ⟨S2x2, .f32⟩
  | 50 => ⟨S16384x2, .f32⟩
  | _ => ⟨S16384x200, .i32⟩

abbrev hbmTy (i : Nat) : BufTy := match i / 128 with
  | 0 => hbmTy0_0 i
  | 1 => hbmTy0_1 i
  | 2 => hbmTy0_2 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v7 : Ref sig .tc := ⟨.hbm, 276, rfl⟩
abbrev main_cst_3 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_cst_4 : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev main_c_5 : Ref sig .tc := ⟨.hbm, 285, rfl⟩
abbrev main_v14 : Ref sig .tc := ⟨.hbm, 286, rfl⟩
abbrev main_v15 : Ref sig .tc := ⟨.hbm, 287, rfl⟩
abbrev main_c_6 : Ref sig .tc := ⟨.hbm, 288, rfl⟩
abbrev main_v16 : Ref sig .tc := ⟨.hbm, 289, rfl⟩
abbrev main_v17 : Ref sig .tc := ⟨.hbm, 290, rfl⟩
abbrev main_v18 : Ref sig .tc := ⟨.hbm, 291, rfl⟩
abbrev main_c_7 : Ref sig .tc := ⟨.hbm, 292, rfl⟩
abbrev main_v19 : Ref sig .tc := ⟨.hbm, 293, rfl⟩
abbrev main_v20 : Ref sig .tc := ⟨.hbm, 294, rfl⟩
abbrev main_c_8 : Ref sig .tc := ⟨.hbm, 295, rfl⟩
abbrev main_v21 : Ref sig .tc := ⟨.hbm, 296, rfl⟩
abbrev main_v22 : Ref sig .tc := ⟨.hbm, 297, rfl⟩
abbrev main_v23 : Ref sig .tc := ⟨.hbm, 298, rfl⟩
abbrev main_v24 : Ref sig .tc := ⟨.hbm, 299, rfl⟩
abbrev main_v25 : Ref sig .tc := ⟨.hbm, 300, rfl⟩
abbrev main_v26 : Ref sig .tc := ⟨.hbm, 301, rfl⟩
abbrev main_cst_9 : Ref sig .tc := ⟨.hbm, 302, rfl⟩
abbrev main_v27 : Ref sig .tc := ⟨.hbm, 303, rfl⟩
abbrev main_v28 : Ref sig .tc := ⟨.hbm, 304, rfl⟩
abbrev main_v29 : Ref sig .tc := ⟨.hbm, 305, rfl⟩
abbrev main_v30 : Ref sig .tc := ⟨.hbm, 306, rfl⟩

abbrev nD : Nat := 1
abbrev τ : Topo := Topo.v7x

variable {F : FTy → Type} [FloatOps F]
-- ==== Proof.Threefry.lean ====
/- The random word of a counter under Threefry-2x32 with the key `(0, 1)`, as a function of one 32-bit word: both programs draw `hash` of the row's
   number, the kernel a vector of sixteen rows at a time, the reference all rows at once. -/
module

public import Idealize.ShloMosaic.PureOps

@[expose] public section

noncomputable section

namespace Cert.Threefry

open Idealize.ShloMosaic

/-- The two words the cipher works on. -/
abbrev Pair : Type := BitVec 32 × BitVec 32

/-- `x` rotated left, `n` and `m` being the two shift amounts (they add up to 32 wherever this is used). -/
def rot (n m x : BitVec 32) : BitVec 32 := (x <<< n) ||| (x >>> m)

/-- One round: the first word takes the sum, the second is rotated and mixed with it. -/
def turn (n m : BitVec 32) (p : Pair) : Pair := (p.1 + p.2, (p.1 + p.2) ^^^ rot n m p.2)

/-- A key injection: one word added to each half. -/
def inject (a b : BitVec 32) (p : Pair) : Pair := (p.1 + a, p.2 + b)

/-- The four rounds of an odd-numbered group. -/
def quadA (p : Pair) : Pair := turn 6#32 26#32 (turn 26#32 6#32 (turn 15#32 17#32 (turn 13#32 19#32 p)))

/-- The four rounds of an even-numbered group. -/
def quadB (p : Pair) : Pair := turn 24#32 8#32 (turn 16#32 16#32 (turn 29#32 3#32 (turn 17#32 15#32 p)))

/-- Both halves of the cipher's output at the counter `(0, x)`. -/
def cipher (x : BitVec 32) : Pair :=
  inject 466688987#32 5#32 (quadA (inject 1#32 466688991#32 (quadB (inject 0#32 4#32 (quadA (inject 466688987#32 2#32 (quadB
    (inject 1#32 466688988#32 (quadA (0#32, x))))))))))

/-- The random word of counter `x`: the two halves of the output combined. -/
def hash (x : BitVec 32) : BitVec 32 := (cipher x).1 ^^^ (cipher x).2

/-- Row `r`'s random word: its counter is `r`, to which the key's second word is added. -/
def rowBits (r : Nat) : BitVec 32 := hash (BitVec.ofNat 32 r + 1#32)

/-- Whether row `r`'s draw lies in the upper half of its range, that is whether its top bit is set. -/
def upper (r : Nat) : Prop := ¬ (rowBits r >>> 31#32 = 0#32)

instance (r : Nat) : Decidable (upper r) := inferInstanceAs (Decidable (¬ _))

end Cert.Threefry

end
-- ==== Proof.Payload.lean ====
/- What the kernel computes in one trip: sixteen rows' random words, the flags of their top bits, and the two planes' entries those flags choose. -/
module

public import proofs.«01_k».proof.Proof.Threefry
public import proofs.«01_k».proof.Proof.Gen.KernelIdeal.Skeleton
public import Idealize.ShloMosaic.Lib.StableHlo.ReadAt

@[expose] public section

noncomputable section

namespace Cert.Lanes

open Idealize.ShloMosaic Cert.KernelIdeal Cert.KernelIdeal.Gen Cert.Threefry

variable {F : FTy → Type} [FloatOps F]

/-- Two vectors' words in one lane. -/
abbrev lane (x y : IVec S16 32) (j : S16.Idx) : Pair := (x j, y j)

/-- A round on vectors is the round in each lane. -/
theorem turned (x y : IVec S16 32) (n m : BitVec 32) (j : S16.Idx) (hn : n.toNat < 32 := by decide) (hm : m.toNat < 32 := by decide) :
    lane (addi x y) (xori (addi x y) (ori (shli y (broadcast S16 n)) (shrui y (broadcast S16 m)))) j = turn n m (lane x y j) := by
  simp only [lane, addi, xori, ori, shli, shrui, broadcast, IntOp.shli, IntOp.shrui, hn, hm, if_true]
  rfl

/-- An injection on vectors is the injection in each lane. -/
theorem injected (x y : IVec S16 32) (a b : BitVec 32) (j : S16.Idx) :
    lane (addi x (broadcast S16 a)) (addi y (broadcast S16 b)) j = inject a b (lane x y j) := rfl

section First
variable (v3 : IVec S16 32) (v22 c0 c1 : BitVec 32) (t : Fin k0_t1_loop.trips)

/-- The first window of the cipher: four rounds, an injection, and one more round. -/
theorem first (j : S16.Idx) : lane (k0_pay10 v3 v22 c0 c1 t) (k0_pay11 v3 v22 c0 c1 t) j
    = turn 17#32 15#32 (inject 1#32 466688988#32 (quadA (0#32, k0_pay1 v3 v22 c0 c1 t j))) := by
  have e0 : lane (k0_pay2 v3 v22 c0 c1 t) (k0_pay3 v3 v22 c0 c1 t) j = turn 13#32 19#32 (0#32, k0_pay1 v3 v22 c0 c1 t j) := turned _ _ 13#32 19#32 j
  have e1 : lane (k0_pay4 v3 v22 c0 c1 t) (k0_pay5 v3 v22 c0 c1 t) j = turn 15#32 17#32 (lane (k0_pay2 v3 v22 c0 c1 t) (k0_pay3 v3 v22 c0 c1 t) j) :=
    turned _ _ 15#32 17#32 j
  have e2 : lane (k0_pay6 v3 v22 c0 c1 t) (k0_pay7 v3 v22 c0 c1 t) j = turn 26#32 6#32 (lane (k0_pay4 v3 v22 c0 c1 t) (k0_pay5 v3 v22 c0 c1 t) j) :=
    turned _ _ 26#32 6#32 j
  have e3 : lane (addi (k0_pay8 v3 v22 c0 c1 t) (broadcast S16 1#32)) (k0_pay9 v3 v22 c0 c1 t) j
      = inject 1#32 466688988#32 (turn 6#32 26#32 (lane (k0_pay6 v3 v22 c0 c1 t) (k0_pay7 v3 v22 c0 c1 t) j)) :=
    (injected _ _ 1#32 466688988#32 j).trans (congrArg _ (turned _ _ 6#32 26#32 j))
  have e4 : lane (k0_pay10 v3 v22 c0 c1 t) (k0_pay11 v3 v22 c0 c1 t) j
      = turn 17#32 15#32 (lane (addi (k0_pay8 v3 v22 c0 c1 t) (broadcast S16 1#32)) (k0_pay9 v3 v22 c0 c1 t) j) := turned _ _ 17#32 15#32 j
  rw [e4, e3, e2, e1, e0]
  rfl

end First

/-- The second window: from the state `(a, y)`, whose sum was taken already, three rounds, an injection and three rounds; the fourth's sum is taken. -/
theorem second (a y : IVec S16 32) (j : S16.Idx) :
    lane (k0_pay22 y (addi a y)) (k0_pay23 y (addi a y)) j
      = turn 26#32 6#32 (turn 15#32 17#32 (turn 13#32 19#32 (inject 466688987#32 2#32 (turn 24#32 8#32 (turn 16#32 16#32 (turn 29#32 3#32 (lane a y j))))))) := by
  have e0 : lane (addi a y) (k0_pay13 y (addi a y)) j = turn 29#32 3#32 (lane a y j) := turned _ _ 29#32 3#32 j
  have e1 : lane (k0_pay14 y (addi a y)) (k0_pay15 y (addi a y)) j = turn 16#32 16#32 (lane (addi a y) (k0_pay13 y (addi a y)) j) := turned _ _ 16#32 16#32 j
  have e2 : lane (addi (k0_pay16 y (addi a y)) (broadcast S16 466688987#32)) (k0_pay17 y (addi a y)) j
      = inject 466688987#32 2#32 (turn 24#32 8#32 (lane (k0_pay14 y (addi a y)) (k0_pay15 y (addi a y)) j)) :=
    (injected _ _ 466688987#32 2#32 j).trans (congrArg _ (turned _ _ 24#32 8#32 j))
  have e3 : lane (k0_pay18 y (addi a y)) (k0_pay19 y (addi a y)) j
      = turn 13#32 19#32 (lane (addi (k0_pay16 y (addi a y)) (broadcast S16 466688987#32)) (k0_pay17 y (addi a y)) j) := turned _ _ 13#32 19#32 j
  have e4 : lane (k0_pay20 y (addi a y)) (k0_pay21 y (addi a y)) j = turn 15#32 17#32 (lane (k0_pay18 y (addi a y)) (k0_pay19 y (addi a y)) j) :=
    turned _ _ 15#32 17#32 j
  have e5 : lane (k0_pay22 y (addi a y)) (k0_pay23 y (addi a y)) j = turn 26#32 6#32 (lane (k0_pay20 y (addi a y)) (k0_pay21 y (addi a y)) j) :=
    turned _ _ 26#32 6#32 j
  rw [e5, e4, e3, e2, e1, e0]

/-- The third window: from the state `(a, y)`, whose sum was taken already, one round, an injection, four rounds and an injection. -/
theorem third (a y : IVec S16 32) (j : S16.Idx) :
    lane (addi (k0_pay32 y (addi a y)) (broadcast S16 1#32)) (k0_pay33 y (addi a y)) j
      = inject 1#32 466688991#32 (quadB (inject 0#32 4#32 (turn 6#32 26#32 (lane a y j)))) := by
  have e0 : lane (addi (addi a y) (broadcast S16 0#32)) (k0_pay25 y (addi a y)) j = inject 0#32 4#32 (turn 6#32 26#32 (lane a y j)) :=
    (injected _ _ 0#32 4#32 j).trans (congrArg _ (turned _ _ 6#32 26#32 j))
  have e1 : lane (k0_pay26 y (addi a y)) (k0_pay27 y (addi a y)) j = turn 17#32 15#32 (lane (addi (addi a y) (broadcast S16 0#32)) (k0_pay25 y (addi a y)) j) :=
    turned _ _ 17#32 15#32 j
  have e2 : lane (k0_pay28 y (addi a y)) (k0_pay29 y (addi a y)) j = turn 29#32 3#32 (lane (k0_pay26 y (addi a y)) (k0_pay27 y (addi a y)) j) :=
    turned _ _ 29#32 3#32 j
  have e3 : lane (k0_pay30 y (addi a y)) (k0_pay31 y (addi a y)) j = turn 16#32 16#32 (lane (k0_pay28 y (addi a y)) (k0_pay29 y (addi a y)) j) :=
    turned _ _ 16#32 16#32 j
  have e4 : lane (addi (k0_pay32 y (addi a y)) (broadcast S16 1#32)) (k0_pay33 y (addi a y)) j
      = inject 1#32 466688991#32 (turn 24#32 8#32 (lane (k0_pay30 y (addi a y)) (k0_pay31 y (addi a y)) j)) :=
    (injected _ _ 1#32 466688991#32 j).trans (congrArg _ (turned _ _ 24#32 8#32 j))
  rw [e4, e3, e2, e1, e0]
  rfl

/-- The last window: from the state `(a, y)`, whose sum was taken and whose second word was shifted already, the last four rounds, the last injection, and
    whether the top bit of the combined word is clear. -/
theorem fourth (a y : IVec S16 32) (j : S16.Idx) :
    k0_pay37 y (addi a y) (shli y (broadcast S16 13#32)) j
      = IntOp.cmpi .eq (((inject 466688987#32 5#32 (quadA (lane a y j))).1 ^^^ (inject 466688987#32 5#32 (quadA (lane a y j))).2) >>> 31#32) 0#32 := by
  have e0 := turned a y 13#32 19#32 j
  generalize hx : addi a y = x at *
  generalize hy : xori x (ori (shli y (broadcast S16 13#32)) (shrui y (broadcast S16 19#32))) = z at *
  have e1 := turned x z 15#32 17#32 j
  generalize hx1 : addi x z = x1 at *
  generalize hz1 : xori x1 (ori (shli z (broadcast S16 15#32)) (shrui z (broadcast S16 17#32))) = z1 at *
  have e2 := turned x1 z1 26#32 6#32 j
  generalize hx2 : addi x1 z1 = x2 at *
  generalize hz2 : xori x2 (ori (shli z1 (broadcast S16 26#32)) (shrui z1 (broadcast S16 6#32))) = z2 at *
  have e3 := turned x2 z2 6#32 26#32 j
  generalize hx3 : addi x2 z2 = x3 at *
  generalize hz3 : xori x3 (ori (shli z2 (broadcast S16 6#32)) (shrui z2 (broadcast S16 26#32))) = z3 at *
  have q : quadA (lane a y j) = lane x3 z3 j := by
    rw [e3, e2, e1, e0]
    rfl
  rw [q]
  unfold k0_pay37
  rw [hy, hx1, hz1, hx2, hz2, hx3, hz3]
  show IntOp.cmpi .eq (IntOp.shrui .vector _ 31#32) 0#32 = _
  simp only [IntOp.shrui]
  rw [if_pos (by decide)]
  rfl

/-- A trip's flags: in each lane, whether the top bit of that counter's random word is clear. -/
theorem flags (v3 : IVec S16 32) (v22 c0 c1 : BitVec 32) (t : Fin k0_t1_loop.trips) {A B C D : IVec S16 32}
    (hA : k0_pay11 v3 v22 c0 c1 t = A) (hB : k0_pay12 v3 v22 c0 c1 t = B) (hC : k0_pay23 A B = C) (hD : k0_pay24 A B = D) (j : S16.Idx) :
    k0_pay37 (k0_pay33 C D) (k0_pay34 C D) (k0_pay35 C D) j = IntOp.cmpi .eq (Threefry.hash (k0_pay1 v3 v22 c0 c1 t j) >>> 31#32) 0#32 := by
  have e1 := first v3 v22 c0 c1 t j
  have hB' : B = addi (k0_pay10 v3 v22 c0 c1 t) A := by rw [← hB, ← hA]; rfl
  rw [hA] at e1
  subst hB'
  have e2 := second (k0_pay10 v3 v22 c0 c1 t) A j
  rw [e1, hC] at e2
  have hD' : D = addi (k0_pay22 A (addi (k0_pay10 v3 v22 c0 c1 t) A)) C := by rw [← hD, ← hC]; rfl
  subst hD'
  have e3 := third (k0_pay22 A (addi (k0_pay10 v3 v22 c0 c1 t) A)) C j
  rw [e2] at e3
  generalize k0_pay22 A (addi (k0_pay10 v3 v22 c0 c1 t) A) = P at *
  have e4 := fourth (addi (k0_pay32 C (addi P C)) (broadcast S16 1#32)) (k0_pay33 C (addi P C)) j
  rw [e3] at e4
  exact e4

/-- The bits of a number below 16384, in a tile's first row `512 * (2 * s + c)`, its sixteen-row block `t` and the lane `j`, plus one. -/
theorem counter (i : grid0.Coords) (t : Fin k0_t1_loop.trips) (j : S16.Idx) :
    k0_pay1 (iota .scVector S16 32 [0] iota_S16_d0_w32_scVector)
      (Scalar.addi (Scalar.muli (Scalar.addi (Scalar.muli (BitVec.ofNat 32 (i 1).val) 2#32) (BitVec.ofNat 32 (i 0).val)) 512#32) 1#32) 0#32 1#32 t j
      = BitVec.ofNat 32 (1024 * (i 1).val + 512 * (i 0).val + (16 * t.val + (j 0).val)) + 1#32 := by
  unfold k0_pay1
  pointwise
  simp only [IntOp.addi, IntOp.muli, Scalar.addi, Scalar.muli, Scf.iv]
  apply BitVec.eq_of_toNat_eq
  simp only [BitVec.toNat_add, BitVec.toNat_mul, BitVec.toNat_ofNat]
  omega

/-- Entry `k` of the flattened table, added to zero, as the kernel reads it. -/
def entry (w : S16.Idx → F .f32) (k : Fin 16) : F .f32 := FloatOps.addf (FloatOps.ofBits .f32 0x00000000#32) (w (ix1 k))

/-- What plane `p` holds for row `r`: the table's entry in place zero or one by the top bit of the row's random word. -/
def cell (w : S16.Idx → F .f32) (p : Fin 2) (r : Nat) : F .f32 := if upper r then entry w ⟨2 * p.val, by omega⟩ else entry w ⟨2 * p.val + 1, by omega⟩

/-- A choice by a flag that says whether a word is zero. -/
theorem select_zero {q : BitVec 32} {b : BitVec 1} (hb : b = IntOp.cmpi .eq q 0#32) (x y : F .f32) :
    Scalar.select b x y = if ¬ q = 0#32 then y else x := by
  have hq : IntOp.cmpi .eq q 0#32 = BitVec.ofBool (decide (q = 0#32)) := rfl
  rw [hb, hq]
  by_cases h : q = 0#32
  · rw [decide_eq_true h, if_neg (not_not.2 h)]
    rfl
  · rw [decide_eq_false h, if_pos h]
    rfl

/-- A choice by a flag that says whether the row's top bit is clear. -/
theorem chosen {r : Nat} {b : BitVec 1} (hb : b = IntOp.cmpi .eq (rowBits r >>> 31#32) 0#32) (x y : F .f32) :
    Scalar.select b x y = if upper r then y else x := by
  rw [select_zero hb]
  by_cases h : upper r
  · rw [if_pos h]
    exact if_pos h
  · rw [if_neg h]
    exact if_neg h

section Stored
variable (w : Vec F S16 .f32) (i : grid0.Coords) (t : Fin k0_t1_loop.trips) {A B C D : IVec S16 32} {v22 : BitVec 32}

/-- A trip's sixteen entries of the first plane. -/
theorem stored0
    (hv : v22 = Scalar.addi (Scalar.muli (Scalar.addi (Scalar.muli (BitVec.ofNat 32 (i 1).val) 2#32) (BitVec.ofNat 32 (i 0).val)) 512#32) 1#32)
    (hA : k0_pay11 (iota .scVector S16 32 [0] iota_S16_d0_w32_scVector) v22 0#32 1#32 t = A) (hB : k0_pay12 (iota .scVector S16 32 [0] iota_S16_d0_w32_scVector) v22 0#32 1#32 t = B)
    (hC : k0_pay23 A B = C) (hD : k0_pay24 A B = D) (j : S16.Idx) :
    k0_pay38 w (k0_pay33 C D) (k0_pay34 C D) (k0_pay35 C D) j = cell w 0 (1024 * (i 1).val + 512 * (i 0).val + (16 * t.val + (j 0).val)) := by
  have hf := flags _ _ _ _ t hA hB hC hD j
  rw [hv, counter] at hf
  unfold cell entry
  rw [← chosen hf]
  generalize k0_pay33 C D = x, k0_pay34 C D = y, k0_pay35 C D = z at *
  unfold k0_pay38 k0_pay36
  generalize k0_pay37 x y z = f
  pointwise

/-- A trip's sixteen entries of the second plane. -/
theorem stored1
    (hv : v22 = Scalar.addi (Scalar.muli (Scalar.addi (Scalar.muli (BitVec.ofNat 32 (i 1).val) 2#32) (BitVec.ofNat 32 (i 0).val)) 512#32) 1#32)
    (hA : k0_pay11 (iota .scVector S16 32 [0] iota_S16_d0_w32_scVector) v22 0#32 1#32 t = A) (hB : k0_pay12 (iota .scVector S16 32 [0] iota_S16_d0_w32_scVector) v22 0#32 1#32 t = B)
    (hC : k0_pay23 A B = C) (hD : k0_pay24 A B = D) (j : S16.Idx) :
    k0_pay39 w (k0_pay33 C D) (k0_pay34 C D) (k0_pay35 C D) j = cell w 1 (1024 * (i 1).val + 512 * (i 0).val + (16 * t.val + (j 0).val)) := by
  have hf := flags _ _ _ _ t hA hB hC hD j
  rw [hv, counter] at hf
  unfold cell entry
  rw [← chosen hf]
  generalize k0_pay33 C D = x, k0_pay34 C D = y, k0_pay35 C D = z at *
  unfold k0_pay39 k0_pay36
  generalize k0_pay37 x y z = f
  pointwise

end Stored

end Cert.Lanes

end
-- ==== Proof.Tile.lean ====
/-
  One vector subcore's run of the kernel, over any float values: it fetches the padded table, fills its two scratch rows sixteen entries a trip, and
  writes each out to its stretch of the two planes.
-/
module

public import proofs.«01_k».proof.Proof.Payload
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Run

open Cert.KernelIdeal Cert.KernelIdeal.Gen Cert.Lanes

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The two arrays the subcores touch, and each task's part of them -/

/-- The padded table of sixteen entries. -/
abbrev wLoc (d : Dev nD) : Loc nD τ sig := (SparseCore.T d).loc main_v2
/-- The two planes of the result. -/
abbrev oLoc (d : Dev nD) : Loc nD τ sig := (SparseCore.T d).loc main_v3

/-- The planes' positions that task `n` writes in plane `p`: columns `512 n … 512 n + 511`. -/
def part (p : Fin 2) (n : Fin 32) : Finset S2x16384.Idx := Finset.univ.filter fun x => (x 0).val = p.val ∧ (x 1).val / 512 = n.val

/-- What the kernel leaves in the planes: at `(p, r)` the entry row `r`'s random bit picks of plane `p`'s pair. -/
def planes [FloatOps F] (w : S16.Idx → F .f32) : S2x16384.Idx → F .f32 := fun x => cell w (x 0) (x 1).val

/-- Task `n`'s read share of the table. -/
abbrev share (n : Fin 32) : PosShare TreeShare := leaf 5 fullShare n

/-- What task `n` on device `d` holds, the table at `w` and the planes at `f`: its share of the table and its part of each plane. -/
abbrev Holds (d : Dev nD) (n : Fin 32) (w : Buf (Elt F) (wLoc d)) (f : Buf (Elt F) (oLoc d)) : sProp 𝕄 :=
  iprop((wLoc d ↦{share n} w) ∗ (oLoc d ↦[part 0 n]{fullShare} f) ∗ oLoc d ↦[part 1 n]{fullShare} f)

section Tile

variable (d : Dev nD) (L : grid0.Coords)

theorem bound_zero : grid0.bound 0 = 2 := rfl
theorem bound_one : grid0.bound 1 = 16 := rfl

abbrev cV : Fin τ.nSC := (L 0).castLE hcore0
abbrev jV : Fin τ.nSub := (L 1).castLE hsub0
/-- The vector subcore at the grid's coordinates `L`. -/
abbrev me : Thread nD τ := V d (cV L) (jV L)

/-- The number of the task at coordinates `L`. -/
def num : Fin 32 := ⟨2 * (L 1).val + (L 0).val, by
  have h0 : (L 0).val < 2 := (L 0).isLt
  have h1 : (L 1).val < 16 := (L 1).isLt
  omega⟩

abbrev wM : Memref sig .scVector .hbm S16 .f32 := Memref.whole main_v2_scv
abbrev oM : Memref sig .scVector .hbm S2x16384 .f32 := Memref.whole main_v3_scv
abbrev tM : Memref sig .scVector .vmem S16 .f32 := Memref.whole cc0_scratch0
abbrev aM : Memref sig .scVector .vmem S512 .f32 := Memref.whole cc0_scratch1
abbrev bM : Memref sig .scVector .vmem S512 .f32 := Memref.whole cc0_scratch2

/-- The task's stretch of the first plane and of the second, as the program slices them. -/
abbrev out0 : Memref sig .scVector .hbm S512 .f32 :=
  (oM.slice (Rect.unit (s := S2x16384) (k0_off2 L) S1x512.size (k0_off2_inb L)) (fun _ => rfl)).squeeze S512 squeezes_S1x512_S512
abbrev out1 : Memref sig .scVector .hbm S512 .f32 :=
  (oM.slice (Rect.unit (s := S2x16384) (k0_off3 L) S1x512.size (k0_off3_inb L)) (fun _ => rfl)).squeeze S512 squeezes_S1x512_S512

/-- A one-row stretch of 512 columns at row `p`, column `512 n`, is the part `(p, n)`. -/
theorem stretch {off : Fin 2 → Nat} {inb : ∀ a, off a + S1x512.size a ≤ S2x16384.size a} (p : Fin 2) (n : Fin 32) (h : off = ![p.val, 512 * n.val]) :
    (Rect.unit (s := S2x16384) off S1x512.size inb).set = part p n := by
  ext x
  subst h
  unfold part
  rw [Rect.mem_set_unit, Finset.mem_filter]
  constructor
  · intro hx
    have h0 := hx 0
    have h1 := hx 1
    simp at h0 h1
    exact ⟨Finset.mem_univ _, by omega, by omega⟩
  · rintro ⟨-, h0, h1⟩ a
    match a with
    | 0 => simp; omega
    | 1 => simp; omega

theorem off2_num : k0_off2 L = ![(0 : Fin 2).val, 512 * (num L).val] := by
  rw [k0_off2_eq]; unfold num
  have : 1024 * (L 1).val + 512 * (L 0).val = 512 * (2 * (L 1).val + (L 0).val) := by omega
  rw [← this]; rfl
theorem off3_num : k0_off3 L = ![(1 : Fin 2).val, 512 * (num L).val] := by
  rw [k0_off3_eq]; unfold num
  have : 1024 * (L 1).val + 512 * (L 0).val = 512 * (2 * (L 1).val + (L 0).val) := by omega
  rw [← this]; rfl

theorem set_out0 : (out0 L).view.set = part 0 (num L) := by
  show ((oM.view.slice (Rect.unit (s := S2x16384) (k0_off2 L) S1x512.size (k0_off2_inb L))).reshape S512 squeezes_S1x512_S512.numel_eq).set = _
  rw [View.set_reshape]
  refine Eq.trans ?_ (stretch (inb := k0_off2_inb L) 0 (num L) (off2_num L))
  rw [View.set_slice]; exact Finset.map_refl
theorem set_out1 : (out1 L).view.set = part 1 (num L) := by
  show ((oM.view.slice (Rect.unit (s := S2x16384) (k0_off3 L) S1x512.size (k0_off3_inb L))).reshape S512 squeezes_S1x512_S512.numel_eq).set = _
  rw [View.set_reshape]
  refine Eq.trans ?_ (stretch (inb := k0_off3_inb L) 1 (num L) (off3_num L))
  rw [View.set_slice]; exact Finset.map_refl

theorem pts_out0 (f : Buf (Elt F) (oLoc d)) :
    ((out0 L).view.loc (me d L) ↦[(out0 L).view.set]{fullShare} f : sProp 𝕄) = oLoc d ↦[part 0 (num L)]{fullShare} f := by
  rw [set_out0]
theorem pts_out1 (f : Buf (Elt F) (oLoc d)) :
    ((out1 L).view.loc (me d L) ↦[(out1 L).view.set]{fullShare} f : sProp 𝕄) = oLoc d ↦[part 1 (num L)]{fullShare} f := by
  rw [set_out1]
theorem pts_w (q : PosShare TreeShare) (f : Buf (Elt F) (wLoc d)) :
    (wM.view.loc (me d L) ↦{q} f : sProp 𝕄) = wLoc d ↦{q} f := rfl

abbrev cell0 : GSem nD τ sig := (me d L, .dma cc0_scoped0.sem)
abbrev cell1 : GSem nD τ sig := (me d L, .dma cc0_scoped1.sem)
abbrev cell2 : GSem nD τ sig := (me d L, .dma cc0_scoped2.sem)

/-- The subcore's own counters at zero are the three transfers' counters at zero and the rest. -/
theorem counters_split :
    (ownSems0 (me d L) : sProp 𝕄)
      = iprop(semVal (cell0 d L) 0 ∗ semVal (cell1 d L) 0 ∗ semVal (cell2 d L) 0
          ∗ bigSep ((((ownCells (me d L)).erase (cell0 d L)).erase (cell1 d L)).erase (cell2 d L)) fun g => semVal g 0) := by
  have h0 : cell0 d L ∈ ownCells (me d L) := mem_ownCells.mpr ⟨rfl, by show (SemLoc.dma cc0_scoped0.sem : SemLoc sig).isScoped .scVector = true; decide⟩
  have h1 : cell1 d L ∈ ownCells (me d L) := mem_ownCells.mpr ⟨rfl, by show (SemLoc.dma cc0_scoped1.sem : SemLoc sig).isScoped .scVector = true; decide⟩
  have h2 : cell2 d L ∈ ownCells (me d L) := mem_ownCells.mpr ⟨rfl, by show (SemLoc.dma cc0_scoped2.sem : SemLoc sig).isScoped .scVector = true; decide⟩
  have n10 : cell1 d L ≠ cell0 d L := fun e => absurd (congrArg Prod.snd e) (show ¬(SemLoc.dma cc0_scoped1.sem : SemLoc sig) = SemLoc.dma cc0_scoped0.sem by decide)
  have n21 : cell2 d L ≠ cell1 d L := fun e => absurd (congrArg Prod.snd e) (show ¬(SemLoc.dma cc0_scoped2.sem : SemLoc sig) = SemLoc.dma cc0_scoped1.sem by decide)
  have n20 : cell2 d L ≠ cell0 d L := fun e => absurd (congrArg Prod.snd e) (show ¬(SemLoc.dma cc0_scoped2.sem : SemLoc sig) = SemLoc.dma cc0_scoped0.sem by decide)
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

/-- The subcore's own buffers are the three scratch buffers, at some contents, and the rest. -/
theorem buffers_split :
    (ownBufs (me d L) : sProp 𝕄)
      = iprop((∃ f, (me d L).loc cc0_scratch0 ↦{fullShare} f) ∗ (∃ f, (me d L).loc cc0_scratch1 ↦{fullShare} f) ∗ (∃ f, (me d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own (b : Ref sig .scVector) (h : ((Proc.scVector (cV L) (jV L)).devRef b).owner = _) := SparseCore.Cfg.mem_ownRefs_of_owner (p := Proc.scVector (cV L) (jV L)) (b := (Proc.scVector (cV L) (jV L)).devRef b) h
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

variable [FloatOps F]

/-! ## A trip's store -/

/-- A trip's sixteen words, stored after the trips before it filled the row up to there, fill it up to the next trip's. -/
theorem filled_succ (v : View sig .scVector .vmem S512 .f32) (f : v.ty.Contents (Elt F)) (t : Fin k0_t1_loop.trips) (pay : S16.Idx → F .f32) (want : Nat → F .f32)
    (hpay : ∀ j, pay j = want (16 * t.val + (j 0).val)) (h : ∀ x : S512.Idx, (x 0).val < 16 * t.val → v.read (Elt F) f x = want (x 0).val)
    (x : S512.Idx) (hx : (x 0).val < 16 * (t.val + 1)) :
    v.read (Elt F) ((v.slice (Rect.unit (s := S512) (k0_off1 t) S16.size (k0_off1_inb t))).write (Elt F) f pay Finset.univ) x = want (x 0).val := by
  have e : k0_off1 t 0 = 16 * t.val := by rw [k0_off1_eq]; rfl
  by_cases hlt : (x 0).val < 16 * t.val
  · rw [View.read_slice_write_of_not_mem _ _ _ _ (fun hm => ?_), h x hlt]
    rw [Rect.map_emb_univ, Rect.mem_set_unit] at hm
    have := (hm 0).1
    omega
  · have ej : x = (Rect.unit (s := S512) (k0_off1 t) S16.size (k0_off1_inb t)).emb (ix1 (⟨(x 0).val - 16 * t.val, by omega⟩ : Fin 16) : S16.Idx) := by
      funext a
      refine Fin.ext ?_
      match a with
      | 0 => show (x 0).val = k0_off1 t 0 + 1 * _; simp only [e]; show (x 0).val = 16 * t.val + 1 * ((x 0).val - 16 * t.val); omega
    conv_lhs => rw [ej]
    rw [View.read_slice_write_emb _ _ _ (Finset.mem_univ _), hpay]
    refine congrArg want ?_
    show 16 * t.val + ((x 0).val - 16 * t.val) = (x 0).val
    omega

/-! ## The transfers' contents -/

/-- Where column `x` of a one-row stretch lies: in the stretch's row, `x` columns past its first. -/
theorem stretch_at {off : Fin 2 → Nat} {inb : ∀ a, off a + S1x512.size a ≤ S2x16384.size a} (x : S512.Idx) :
    (((oM.slice (Rect.unit (s := S2x16384) off S1x512.size inb) (fun _ => rfl)).squeeze S512 squeezes_S1x512_S512).view.emb x 0).val = off 0
      ∧ (((oM.slice (Rect.unit (s := S2x16384) off S1x512.size inb) (fun _ => rfl)).squeeze S512 squeezes_S1x512_S512).view.emb x 1).val = off 1 + (x 0).val := by
  have e : ((oM.slice (Rect.unit (s := S2x16384) off S1x512.size inb) (fun _ => rfl)).squeeze S512 squeezes_S1x512_S512).view.emb x
      = (Rect.unit (s := S2x16384) off S1x512.size inb).emb (Fin.cons ⟨0, Nat.one_pos⟩ x) :=
    congrArg (Rect.unit (s := S2x16384) off S1x512.size inb).emb (Shape.reshapeEquiv_cons_one squeezes_S1x512_S512.numel_eq x)
  rw [e]
  constructor
  · show off 0 + 1 * 0 = off 0
    omega
  · show off 1 + 1 * (x 0).val = off 1 + (x 0).val
    omega

/-- A row of plane `p`'s entries from row `512 n` on, written to the part `(p, n)`, leaves there what the kernel is to leave. -/
theorem landed (w : S16.Idx → F .f32) (p : Fin 2) (n : Fin 32) {off : Fin 2 → Nat} {inb : ∀ a, off a + S1x512.size a ≤ S2x16384.size a} (h : off = ![p.val, 512 * n.val])
    (f : S2x16384.Idx → F .f32) (pay : S512.Idx → F .f32) (hpay : ∀ x, pay x = cell w p (512 * n.val + (x 0).val)) :
    ∀ i ∈ ((oM.slice (Rect.unit (s := S2x16384) off S1x512.size inb) (fun _ => rfl)).squeeze S512 squeezes_S1x512_S512).view.set,
      View.write (Elt F) ((oM.slice (Rect.unit (s := S2x16384) off S1x512.size inb) (fun _ => rfl)).squeeze S512 squeezes_S1x512_S512).view f pay Finset.univ i = planes w i := by
  intro i hi
  obtain ⟨x, -, rfl⟩ := Finset.mem_map.mp hi
  have hx := stretch_at (inb := inb) x
  have key (i : S2x16384.Idx) (h0 : (i 0).val = p.val) (h1 : (i 1).val = 512 * n.val + (x 0).val) : planes w i = cell w p (512 * n.val + (x 0).val) := by
    unfold planes
    rw [h1]
    exact congrArg (fun q => cell w q (512 * n.val + (x 0).val)) (Fin.ext h0)
  refine (View.write_emb_of_mem _ _ (Finset.mem_univ x)).trans ((cast_eq _ _).trans ((hpay x).trans (key _ ?_ ?_).symm))
  · rw [hx.1, h]; rfl
  · rw [hx.2, h]; rfl

/-- What the load of the table's scratch reads, the whole table having been fetched into it. -/
theorem fetched (ft : S16.Idx → F .f32) (w : S16.Idx → F .f32) :
    View.readAt (Elt F) tM.view (Rect.unit ![0] S16.size inb_S16_S16_0).toLoadRect (View.write (Elt F) tM.view ft (wM.view.read (Elt F) w) Finset.univ) = w := by
  refine (Memref.readAt_unit_zero (Elt F) cc0_scratch0 (off := ![0]) (by decide) inb_S16_S16_0 _).trans ?_
  exact (View.write_whole_univ cc0_scratch0 ft _).trans (View.read_whole (Val := Elt F) main_v2_scv w)

/-! ## The task -/

/-- The loop's invariant after `k` trips: each scratch row holds its plane's entries in the first `16 k` places. -/
def inv (w : S16.Idx → F .f32) (k : Nat) (_ : PUnit) : sProp 𝕄 :=
  iprop((∃ f, ⌜∀ x : S512.Idx, (x 0).val < 16 * k → f x = cell w 0 (512 * (num L).val + (x 0).val)⌝ ∗ aM.view.loc (me d L) ↦{fullShare} f)
    ∗ ∃ f, ⌜∀ x : S512.Idx, (x 0).val < 16 * k → f x = cell w 1 (512 * (num L).val + (x 0).val)⌝ ∗ bM.view.loc (me d L) ↦{fullShare} f)

set_option maxHeartbeats 4000000 in
/-- The task on vector subcore `(L 0, L 1)` of device `d`: from its share of the table at `w` and its parts of the planes, it hands back the share and the
    parts at the planes' entries. -/
theorem tile_body (w : Buf (Elt F) (wLoc d)) (fo : Buf (Elt F) (oLoc d)) (hF : (K (F := F)).Facts) (O : CellTallies nD τ sig (HIx 1)) (W : Waits sig (HIx 1)) (hO : ∀ g, O g none = 0) :
    iprop(levAts (K (F := F)).L (K (F := F)).lev ∗ emp ∗ Holds d (num L) w fo
        ∗ scopedBufs (me d L) ∗ scopedSems0 (me d L) ∗ owes (me d L) O W)
      ⊢ wp frame (wpE (defs₀ (F := F)) 𝒱₀ (me d L) none) Set.univ
          (cc0_sc_call L wM (Memref.isWhole_whole _) oM (Memref.isWhole_whole _)
            tM (Memref.isWhole_whole _) aM (Memref.isWhole_whole _) bM (Memref.isWhole_whole _) cc0_scoped0 cc0_scoped1 cc0_scoped2)
          fun _ => iprop(Holds d (num L) w (planes w)
            ∗ scopedBufs (me d L) ∗ scopedSems0 (me d L)
            ∗ ∃ W', ⌜∀ p ∈ W', p ∈ W ∨ p.2 = none⌝ ∗ owes (me d L) O W') := by
  simp only [cc0_sc_call_eq_skeleton]; unfold cc0_sc_call_skel
  simp only [k0_part4_eq_skeleton]; unfold k0_part4_skel
  rw [(K (F := F)).scopedBufs_V hF d (cV L) (jV L), SparseCore.Cfg.scopedSems0_V (Val := Elt F) d (cV L) (jV L), counters_split, buffers_split]
  iintro ⟨#Hlv, -, ⟨Hw, H0, H1⟩, ⟨⟨%ft, Ht⟩, ⟨%fa, Ha⟩, ⟨%fb, Hb⟩, Hbufs⟩, ⟨Hs0, Hs1, Hs2, Hsems⟩, HO⟩
  ihave Hmw := (show levAts (K (F := F)).L (K (F := F)).lev ⊢ Transfers.MayWaits (me d L) (default : HIx 1) O from
    (K (F := F)).mayWaits_none (thr := me d L) hO) $$ Hlv
  ihave H0 := (Entails.of_eq (pts_out0 (F := F) d L _).symm) $$ H0
  ihave H1 := (Entails.of_eq (pts_out1 (F := F) d L _).symm) $$ H1
  ihave Hw := (Entails.of_eq (pts_w (F := F) d L _ _).symm) $$ Hw
  ihave Ht := (show ((me d L).loc cc0_scratch0 ↦{fullShare} ft : sProp 𝕄) ⊢ tM.view.loc (me d L) ↦{fullShare} ft from Entails.refl _) $$ Ht
  ihave Ha := (show ((me d L).loc cc0_scratch1 ↦{fullShare} fa : sProp 𝕄) ⊢ aM.view.loc (me d L) ↦{fullShare} fa from Entails.refl _) $$ Ha
  ihave Hb := (show ((me d L).loc cc0_scratch2 ↦{fullShare} fb : sProp 𝕄) ⊢ bM.view.loc (me d L) ↦{fullShare} fb from Entails.refl _) $$ Hb
  sl_exec
  rw [wp_bind]
  sl_for (inv d L w) $$ [Ha Hb]
  case region =>
    intro k _
    unfold inv
    iintro ⟨⟨%f, %hf, Ha⟩, %g, %hg, Hb⟩
    sl_exec
    sl_step
    isplitl [Ha]
    · iexists _; isplitr
      swap; · iexact Ha
      ipureintro; intro x hx
      refine filled_succ aM.view f k _ (fun r => cell w 0 (512 * (num L).val + r)) (fun j => ?_) hf x hx
      refine (congrArg (fun v => k0_pay38 v _ _ _ j) (fetched ft w)).trans ?_
      exact (stored0 w L k rfl rfl rfl rfl rfl j).trans (congrArg (cell w 0) (by unfold num; show _ = 512 * (2 * (L 1).val + (L 0).val) + _; omega))
    · iexists _; isplitr
      swap; · iexact Hb
      ipureintro; intro x hx
      refine filled_succ bM.view g k _ (fun r => cell w 1 (512 * (num L).val + r)) (fun j => ?_) hg x hx
      refine (congrArg (fun v => k0_pay39 v _ _ _ j) (fetched ft w)).trans ?_
      exact (stored1 w L k rfl rfl rfl rfl rfl j).trans (congrArg (cell w 1) (by unfold num; show _ = 512 * (2 * (L 1).val + (L 0).val) + _; omega))
  · unfold inv
    isplitl [Ha]
    · iexists _; isplitr
      swap; · iexact Ha
      ipureintro; intro x hx; exact absurd hx (by omega)
    · iexists _; isplitr
      swap; · iexact Hb
      ipureintro; intro x hx; exact absurd hx (by omega)
  iintro %_ HI
  unfold inv
  icases HI with ⟨⟨%f, %hf, Ha⟩, %g, %hg, Hb⟩
  sl_exec
  sl_step
  have hf' := landed w 0 (num L) (inb := k0_off2_inb L) (off2_num L) fo (tile_body.sl.dma0_1 d L f) (fun x => hf x (x 0).isLt)
  have hg' := landed w 1 (num L) (inb := k0_off3_inb L) (off3_num L) fo (tile_body.sl.dma0_2 d L g) (fun x => hg x (x 0).isLt)
  ihave H0 := (Entails.of_eq ((congrArg (fun v => ((out0 L).view.loc (me d L) ↦[(out0 L).view.set]{fullShare} v : sProp 𝕄))
    (View.write_univ_eq_writes_whole (out0 L).view fo [] (tile_body.sl.dma0_1 d L f)).symm).trans ((pointsTo_congr hf').trans (pts_out0 (F := F) d L (planes w))))) $$ H0
  ihave H1 := (Entails.of_eq ((congrArg (fun v => ((out1 L).view.loc (me d L) ↦[(out1 L).view.set]{fullShare} v : sProp 𝕄))
    (View.write_univ_eq_writes_whole (out1 L).view fo [] (tile_body.sl.dma0_2 d L g)).symm).trans ((pointsTo_congr hg').trans (pts_out1 (F := F) d L (planes w))))) $$ H1
  isplitl [Hw H0 H1]
  · isplitl [Hw]; · iexact Hw
    isplitl [H0]; · iexact H0
    iexact H1
  isplitl [Ht Ha Hb Hbufs]
  · isplitl [Ht]; · iexists _; iexact Ht
    isplitl [Ha]; · iexists _; iexact Ha
    isplitl [Hb]; · iexists _; iexact Hb
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  simp only [Finset.mem_insert] at hp
  rcases hp with hp | hp | hp | hp
  iterate 3 exact .inr (hp ▸ rfl)
  exact .inl hp

end Tile

end Cert.Run

end
-- ==== Proof.Run.lean ====
/-
  The kernel program's whole run, over any float values: the host operations that pad the table, the launch's thirty-two tasks, the transposition of the
  planes they leave; the arguments unchanged, the result named, every counter back at zero.
-/
module

public import proofs.«01_k».proof.Defs
public import proofs.«01_k».proof.Proof.Tile

@[expose] public section

noncomputable section

namespace Cert.Run

open Cert.KernelIdeal Cert.KernelIdeal.Gen Cert.Lanes

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after after_of_writes_sub forall_writes_sub_of_map)
open Idealize.ShloMosaic.Tactic

variable {F : FTy → Type}

local notation "𝕄" => MT nD τ sig (HIx 1) (Elt F) ℕ UU ℕ

/-! ## The tasks' parts are the whole -/

/-- The number of the task on SparseCore `c`'s vector subcore `i`. -/
def numAt (c i : Nat) : Fin 32 := ⟨(2 * i + c) % 32, Nat.mod_lt _ (by decide)⟩

/-- The task at coordinates `L` has the number its SparseCore and subcore give. -/
theorem num_eq (L : grid0.Coords) : num L = numAt (L 0).val (L 1).val := by
  have h0 : (L 0).val < 2 := (L 0).isLt
  have h1 : (L 1).val < 16 := (L 1).isLt
  exact Fin.ext (Nat.mod_eq_of_lt (show 2 * (L 1).val + (L 0).val < 32 by omega)).symm

/-- SparseCores and their subcores, matched with the tasks' numbers. -/
def tasks : Fin 2 × Fin 16 ≃ Fin 32 where
  toFun x := numAt x.1.val x.2.val
  invFun n := (⟨n.val % 2, by omega⟩, ⟨n.val / 2, by omega⟩)
  left_inv := by decide
  right_inv := by decide

/-- What all thirty-two tasks hold is what each SparseCore's sixteen hold. -/
theorem by_core (Φ : Fin 32 → sProp 𝕄) :
    bigSep Finset.univ Φ = bigSep Finset.univ fun c : Fin 2 => bigSep Finset.univ fun i : Fin 16 => Φ (numAt c.val i.val) := by
  rw [bigSep_univ_equiv tasks Φ, ← Finset.univ_product_univ]
  exact SparseCore.bigSep_product Finset.univ Finset.univ fun x => Φ (tasks x)

/-- Task `n`'s columns of both planes. -/
def band (n : Fin 32) : Finset S2x16384.Idx := part 0 n ∪ part 1 n

/-- A column lies in the part of the task whose block of 512 it is in. -/
theorem mem_part {p : Fin 2} {n : Fin 32} {x : S2x16384.Idx} : x ∈ part p n ↔ (x 0).val = p.val ∧ (x 1).val / 512 = n.val := by
  unfold part; rw [Finset.mem_filter]; exact and_iff_right (Finset.mem_univ x)

@[inherit_doc mem_part]
theorem mem_band {n : Fin 32} {x : S2x16384.Idx} : x ∈ band n ↔ (x 1).val / 512 = n.val := by
  have h : (x 0).val < 2 := (x 0).isLt
  have h0 : (0 : Fin 2).val = 0 := rfl
  have h1 : (1 : Fin 2).val = 1 := rfl
  unfold band
  rw [Finset.mem_union, mem_part, mem_part, h0, h1]
  omega

/-- Two tasks share no column, -/
theorem bands_disjoint : ∀ i ∈ (Finset.univ : Finset (Fin 32)), ∀ j ∈ (Finset.univ : Finset (Fin 32)), i ≠ j → Disjoint (band i) (band j) :=
  fun _ _ _ _ h => Finset.disjoint_left.mpr fun _ hi hj => h (Fin.ext ((mem_band.mp hi).symm.trans (mem_band.mp hj)))

/-- every column has its task, -/
theorem bands_cover : (Finset.univ : Finset (Fin 32)).biUnion band = Finset.univ :=
  Finset.eq_univ_of_forall fun x => Finset.mem_biUnion.mpr ⟨⟨(x 1).val / 512, by have h : (x 1).val < 16384 := (x 1).isLt; omega⟩, Finset.mem_univ _, mem_band.mpr rfl⟩

/-- and a task's two rows are apart. -/
theorem parts_disjoint (n : Fin 32) : Disjoint (part 0 n) (part 1 n) :=
  Finset.disjoint_left.mpr fun _ h0 h1 => absurd ((mem_part.mp h0).1.symm.trans (mem_part.mp h1).1) (by decide)

/-- The planes whole are the tasks' parts of them. -/
theorem planes_split (d : Dev nD) (f : Buf (Elt F) (oLoc d)) :
    (oLoc d ↦{fullShare} f : sProp 𝕄) = bigSep Finset.univ fun n : Fin 32 => iprop((oLoc d ↦[part 0 n]{fullShare} f) ∗ oLoc d ↦[part 1 n]{fullShare} f) := by
  refine (congrArg (fun I => (oLoc d ↦[I]{fullShare} f : sProp 𝕄)) bands_cover.symm).trans
    ((pointsTo_biUnion Finset.univ (ℓ := oLoc d) band bands_disjoint).trans (bigSep_congr fun n _ => ?_))
  exact BI.Entails.antisymm (pointsTo_union (parts_disjoint n)).1 (pointsTo_union (parts_disjoint n)).2

/-- The table and the planes whole are what the tasks hold, SparseCore by SparseCore. -/
theorem whole_split (d : Dev nD) (w : Buf (Elt F) (wLoc d)) (f : Buf (Elt F) (oLoc d)) :
    (iprop((wLoc d ↦{fullShare} w) ∗ oLoc d ↦{fullShare} f) : sProp 𝕄)
      = bigSep Finset.univ fun c : Fin 2 => bigSep Finset.univ fun i : Fin 16 => Holds d (numAt c.val i.val) w f := by
  rw [← by_core fun n => Holds d n w f, planes_split, show (wLoc d ↦{fullShare} w : sProp 𝕄) = _ from pointsTo_leaves Finset.univ w 5 fullShare, ← bigSep_sep']
  rfl

variable [FloatOps F]

/-! ## What the handshakes carry -/

variable (w : (d : Dev nD) → Buf (Elt F) (wLoc d)) (o : (d : Dev nD) → Buf (Elt F) (oLoc d))

/-- Each SparseCore is handed its tasks' holdings, the table at `w` and the planes at `o`; each task takes its own, and brings it back with the planes'
    entries in its parts. -/
def P : (K (F := F)).Pay (nD := nD) (Val := Elt F) (Name := ℕ) (U := UU) where
  st := fun q d c => bigSep Finset.univ fun i : Fin ((K (F := F)).nSub q) => Holds d (numAt c.val i.val) (w d) (o d)
  dn := fun q d c => bigSep Finset.univ fun i : Fin ((K (F := F)).nSub q) => Holds d (numAt c.val i.val) (w d) (planes (w d))
  go := fun _ d c i => Holds d (numAt c.val i.val) (w d) (o d)
  td := fun _ d c i => Holds d (numAt c.val i.val) (w d) (planes (w d))
  x := fun _ _ => iprop(emp)

instance P_storable : (P (F := F) w o).IsStorable where
  st _ _ _ := by unfold P; infer_instance
  dn _ _ _ := by unfold P; infer_instance
  go _ _ _ _ := by unfold P; infer_instance
  td _ _ _ _ := by unfold P; infer_instance

/-- A SparseCore's holdings are its tasks' already. -/
theorem vecSplit (q : Fin 1) : (K (F := F)).VecSplit' (P w o) q := by
  intro d c
  show (bigSep Finset.univ fun i : Fin ((K (F := F)).nSub q) => (P w o).go q d c i) ⊢ |={Set.univ}=> iprop((bigSep Finset.univ fun i : Fin ((K (F := F)).nSub q) => (P w o).go q d c i)
    ∗ ((bigSep Finset.univ fun i : Fin ((K (F := F)).nSub q) => (P w o).td q d c i) -∗ bigSep Finset.univ fun i : Fin ((K (F := F)).nSub q) => (P w o).td q d c i))
  iintro H; imodintro
  isplitl [H]; · iexact H
  iintro H; iexact H

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_call (coordsV c s)
          wM (Memref.isWhole_whole _) oM (Memref.isWhole_whole _)
          tM (Memref.isWhole_whole _) aM (Memref.isWhole_whole _) bM (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore of the grid runs its task. -/
theorem tileObl (hF : (K (F := F)).Facts) : (K (F := F)).TileObl (D (F := F)) 𝒱 (P w o) v₀ 0 := by
  intro d c i O W hO _ _
  simp only [show (P w o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) (w d) (o d) hF O W hO
  rw [num_eq] at h
  exact h.trans (wp_mono frame _ _ fun _ => obl_post)

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P w o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) w o).x q thr) = bigSep Finset.univ fun _ => iprop(emp) from
    bigSep_congr fun _ _ => bigSep_univ_of_subsingleton (0 : Fin 1), bigSep_emp']
  iempintro

/-- What the call takes for its two SparseCores: the table and the planes whole. -/
theorem st0_eq (d : Dev nD) : (bigSep Finset.univ fun c : Fin ((K (F := F)).nCore 0) => (P w o).st 0 d c) = iprop((wLoc d ↦{fullShare} w d) ∗ oLoc d ↦{fullShare} o d) :=
  (whole_split d (w d) (o d)).symm
/-- What it hands back: the same, the planes at their entries. -/
theorem dn0_eq (d : Dev nD) :
    (bigSep Finset.univ fun c : Fin ((K (F := F)).nCore 0) => (P w o).dn 0 d c) = iprop((wLoc d ↦{fullShare} w d) ∗ oLoc d ↦{fullShare} planes (w d)) :=
  (whole_split d (w d) (planes (w d))).symm

/-! ## The host operations -/

/-- The contents of a tensor value of shape `s`, of 32-bit floats. -/
abbrev Tensor (F : FTy → Type) (s : Shape) : Type := BufTy.Contents (Elt F) ⟨s, .f32⟩

/-- The TensorCore's name `b` of a buffer, as the device's. -/
abbrev ref (b : Ref sig .tc) : DevRef τ sig := Proc.devRef .tc b

/-- The table flattened. -/
abbrev opFlat : HloOp τ sig (Elt F) := StableHlo.reshape main_arg2 main_v0 (rfl : (.f32 : EltTy) = .f32) shapeCasts_S2x2_S4
/-- A zero, -/
abbrev opZero : HloOp τ sig (Elt F) := StableHlo.nullary main_cst (constant S_ .f32 0x00000000#32)
/-- twelve of them, -/
abbrev opZeros : HloOp τ sig (Elt F) := StableHlo.unary main_cst main_v1 (broadcastInDim S12 ![] bcast_S_S12 : Tensor F S_ → Tensor F S12)
/-- and the flattened table with those behind it. -/
abbrev opPad : HloOp τ sig (Elt F) :=
  StableHlo.binary main_v0 main_v1 main_v2 ((fun a b => concatenate S16 0 [⟨S4, a⟩, ⟨S12, b⟩] concatenates_S4_S12_S16_d0) : Tensor F S4 → Tensor F S12 → Tensor F S16)
/-- The planes transposed. -/
abbrev opTurn : HloOp τ sig (Elt F) :=
  StableHlo.unary main_v3 main_v4 ((transpose S16384x2 [1, 0] · transposes_S2x16384_S16384x2_1_0) : Tensor F S2x16384 → Tensor F S16384x2)

/-- The operations before the launch: the table flattened, and padded with zeros. -/
def padOps : List (HloOp τ sig (Elt F)) := [opFlat, opZero, opZeros, opPad]

/-- They write nothing but what they compute. -/
theorem padOps_kept (V : Valuation τ sig (Elt F)) {r : Ref sig .tc} (hr : r ∉ [main_v0, main_cst, main_v1, main_v2]) : after padOps V (ref r) = V (ref r) :=
  after_of_writes_sub padOps V (forall_writes_sub_of_map rfl) hr

variable (m : (ℓ : Loc nD τ sig) → Buf (Elt F) ℓ) (ρ : Dev nD → PrngReg)

/-- The launch memory's contents on device `d`. -/
def V0 (d : Dev nD) : Valuation τ sig (Elt F) := fun b => m (d, b)
/-- What the launch finds, -/
def V1 (d : Dev nD) : Valuation τ sig (Elt F) := after padOps (V0 m d)
/-- in particular the padded table. -/
def padded (d : Dev nD) : Buf (Elt F) (wLoc d) := V1 m d (ref main_v2)
/-- What it leaves: the planes at their entries. -/
def V2 (d : Dev nD) : Valuation τ sig (Elt F) := Function.update (V1 m d) (ref main_v3) (planes (padded m d))

/-- The program's result. -/
def result (d : Dev nD) : S16384x2.Idx → F .f32 := transpose S16384x2 [1, 0] (planes (padded m d)) transposes_S2x16384_S16384x2_1_0

/-- The arguments on device `d`, -/
abbrev at0 (d : Dev nD) : Loc nD τ sig := (SparseCore.T d).loc main_arg0
abbrev at1 (d : Dev nD) : Loc nD τ sig := (SparseCore.T d).loc main_arg1
abbrev at2 (d : Dev nD) : Loc nD τ sig := (SparseCore.T d).loc main_arg2
/-- and the result. -/
abbrev rLoc (d : Dev nD) : Loc nD τ sig := (SparseCore.T d).loc main_v4

/-- The TensorCore's arrays beside the table, the planes, the arguments and the result. -/
abbrev others : Finset (DevRef τ sig) := {ref main_v0, ref main_cst, ref main_v1}
/-- All its arrays. -/
abbrev arrays : Finset (DevRef τ sig) := insert (ref main_v2) (insert (ref main_v3) (insert (ref main_arg0) (insert (ref main_arg1) (insert (ref main_arg2) (insert (ref main_v4) others)))))

/-- Each operation's arrays are among those. -/
theorem opFlat_bufs : (opFlat (F := F)).bufs ⊆ arrays := show ({ref main_arg2, ref main_v0} : Finset (DevRef τ sig)) ⊆ arrays by decide
theorem opZero_bufs : (opZero (F := F)).bufs ⊆ arrays := show ({ref main_cst} : Finset (DevRef τ sig)) ⊆ arrays by decide
theorem opZeros_bufs : (opZeros (F := F)).bufs ⊆ arrays := show ({ref main_cst, ref main_v1} : Finset (DevRef τ sig)) ⊆ arrays by decide
theorem opPad_bufs : (opPad (F := F)).bufs ⊆ arrays := show ({ref main_v0, ref main_v1, ref main_v2} : Finset (DevRef τ sig)) ⊆ arrays by decide
theorem opTurn_bufs : (opTurn (F := F)).bufs ⊆ arrays := show ({ref main_v3, ref main_v4} : Finset (DevRef τ sig)) ⊆ arrays by decide

/-- Holding them all is holding each. -/
theorem held_arrays (d : Dev nD) (W : Valuation τ sig (Elt F)) :
    (held (T d) arrays W : sProp 𝕄) = iprop((wLoc d ↦{fullShare} W (ref main_v2)) ∗ (oLoc d ↦{fullShare} W (ref main_v3)) ∗ (at0 d ↦{fullShare} W (ref main_arg0))
      ∗ (at1 d ↦{fullShare} W (ref main_arg1)) ∗ (at2 d ↦{fullShare} W (ref main_arg2)) ∗ (rLoc d ↦{fullShare} W (ref main_v4)) ∗ held (T d) others W) := by
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide)]

/-- At the launch the TensorCore holds all its arrays. -/
theorem unscoped_held (d : Dev nD) : (unscopedBufs d (fun b => m ((SparseCore.T d).loc b)) : sProp 𝕄) = held (T d) arrays (V0 m d) := by
  unfold unscopedBufs held
  rw [show (Finset.univ.filter fun b : Ref sig .tc => ¬ b.isScoped)
      = insert main_v2 (insert main_v3 (insert main_arg0 (insert main_arg1 (insert main_arg2 (insert main_v4 {main_v0, main_cst, main_v1}))))) by decide]
  unfold arrays others
  iterate 8 rw [SparseCore.bigSep_insert' (by decide)]
  iterate 8 rw [SparseCore.bigSep_insert' (by decide)]
  rw [bigSep_singleton, bigSep_singleton]
  rfl

/-- The launch leaves every other array alone. -/
theorem V2_of_ne (d : Dev nD) {r : Ref sig .tc} (h : ref r ≠ ref main_v3) : V2 m d (ref r) = V1 m d (ref r) := Function.update_of_ne h _ _
/-- The planes are at their entries. -/
theorem V2_planes (d : Dev nD) : V2 m d (ref main_v3) = planes (padded m d) := Function.update_self _ _ _

/-- What is held after the launch, from its parts. -/
theorem held_V2 (d : Dev nD) :
    (held (T d) arrays (V2 m d) : sProp 𝕄) = iprop((wLoc d ↦{fullShare} padded m d) ∗ (oLoc d ↦{fullShare} planes (padded m d)) ∗ (at0 d ↦{fullShare} V1 m d (ref main_arg0))
      ∗ (at1 d ↦{fullShare} V1 m d (ref main_arg1)) ∗ (at2 d ↦{fullShare} V1 m d (ref main_arg2)) ∗ (rLoc d ↦{fullShare} V1 m d (ref main_v4)) ∗ held (T d) others (V1 m d)) := by
  have ho : (held (T d) others (V2 m d) : sProp 𝕄) = held (T d) others (V1 m d) := by
    unfold held
    refine bigSep_congr fun b hb => ?_
    have hne : b ≠ ref main_v3 := fun e => absurd (e ▸ hb) (by decide)
    rw [V2, Function.update_of_ne hne]
  rw [held_arrays, ho, V2_planes, V2_of_ne m d (r := main_v2) (by decide), V2_of_ne m d (r := main_arg0) (by decide), V2_of_ne m d (r := main_arg1) (by decide),
    V2_of_ne m d (r := main_arg2) (by decide), V2_of_ne m d (r := main_v4) (by decide)]
  rfl

/-- What the last operation leaves at `r`, not its result: the launch memory's contents, for an array nothing wrote. -/
theorem kept (d : Dev nD) {r : Ref sig .tc} (h4 : ref r ≠ ref main_v4) (h3 : ref r ≠ ref main_v3) (h : r ∉ [main_v0, main_cst, main_v1, main_v2]) :
    (opTurn (F := F)).result (V2 m d) (ref r) = m (d, ref r) :=
  (HloOp.result_of_not_mem _ _ (show ref r ∉ ({ref main_v4} : Finset (DevRef τ sig)) from fun e => h4 (Finset.mem_singleton.mp e))).trans ((V2_of_ne m d h3).trans (padOps_kept _ h))

/-- What @main leaves the claim: the arguments at their launch contents, the result at what it is to be. -/
abbrev FIN (d : Dev nD) : sProp 𝕄 :=
  iprop((at0 d ↦{fullShare} m (at0 d)) ∗ (at1 d ↦{fullShare} m (at1 d)) ∗ (at2 d ↦{fullShare} m (at2 d)) ∗ rLoc d ↦{fullShare} result m d)

/-- What is held in the end gives the claim its arrays. -/
theorem held_V3 (d : Dev nD) : (held (T d) arrays ((opTurn (F := F)).result (V2 m d)) : sProp 𝕄) ⊢ FIN m d := by
  have hr : (opTurn (F := F)).result (V2 m d) (ref main_v4) = result m d :=
    ((opTurn (F := F)).result_of_mem (V2 m d) (Finset.mem_singleton_self _)).trans (by
      unfold result
      rw [← V2_planes m d]; rfl)
  rw [held_arrays, kept m d (r := main_arg0) (by decide) (by decide) (by decide), kept m d (r := main_arg1) (by decide) (by decide) (by decide),
    kept m d (r := main_arg2) (by decide) (by decide) (by decide), hr]
  iintro ⟨-, -, H0, H1, H2, Hr, -⟩
  isplitl [H0]; · iexact H0
  isplitl [H1]; · iexact H1
  isplitl [H2]; · iexact H2
  iexact Hr

/-- @main on device `d`'s TensorCore: the padding, the call, the transposition. -/
theorem hmain (κ : GSem nD τ sig → ℕ) (d : Dev nD) :
    iprop((K (F := F)).ctx EH (P (padded m) fun d => m (oLoc d)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays) opFlat_bufs (V := V0 m d)) $$ [Hb Hheld]
  · isplitl [Hb] <;> iassumption
  iintro ⟨Hb, Hheld⟩
  rw [wp_ret]; imodintro
  iapply (wp_hlo_within 𝒱 (SparseCore.T d) none Set.univ (op := opZero) (S := arrays) opZero_bufs (V := opFlat.result (V0 m d))) $$ [Hb Hheld]
  · isplitl [Hb] <;> iassumption
  iintro ⟨Hb, Hheld⟩
  rw [wp_ret]; imodintro
  iapply (wp_hlo_within 𝒱 (SparseCore.T d) none Set.univ (op := opZeros) (S := arrays) opZeros_bufs (V := opZero.result (opFlat.result (V0 m d)))) $$ [Hb Hheld]
  · isplitl [Hb] <;> iassumption
  iintro ⟨Hb, Hheld⟩
  rw [wp_ret]; imodintro
  iapply (wp_hlo_within 𝒱 (SparseCore.T d) none Set.univ (op := opPad) (S := arrays) opPad_bufs (V := opZeros.result (opZero.result (opFlat.result (V0 m d))))) $$ [Hb Hheld]
  · isplitl [Hb] <;> iassumption
  iintro ⟨Hb, Hheld⟩
  rw [wp_ret]; imodintro
  ihave Hh := (show (held (T d) arrays (opPad.result (opZeros.result (opZero.result (opFlat.result (V0 m d))))) : sProp 𝕄) ⊢ _ from
    Entails.of_eq (held_arrays (F := F) d (V1 m d))) $$ Hheld
  icases Hh with ⟨Hw, Ho, H0, H1, H2, Hr, Hrest⟩
  iapply ((K (F := F)).wp_run (D (F := F)) 𝒱 (EH := EH) (P := P (padded m) fun d => m (oLoc d)) κ d 0) $$ [Hst Hw Ho H0 H1 H2 Hr Hrest Hb Hts]
  isplitr; · iexact Hctx
  isplitl [Hst]; · iexact Hst
  isplitl [Hw Ho]
  · rw [st0_eq]
    isplitl [Hw]; · iexact Hw
    iapply (Entails.of_eq (congrArg (fun v => (oLoc d ↦{fullShare} v : sProp 𝕄)) (padOps_kept (V0 m d) (r := main_v3) (by decide)))); iexact Ho
  iintro ⟨Hst, Hdn⟩
  ihave Hdn' := (Entails.of_eq (dn0_eq (padded m) (fun d => m (oLoc d)) d)) $$ Hdn
  icases Hdn' with ⟨Hw, Ho⟩
  iapply (wp_hlo_within 𝒱 (SparseCore.T d) none Set.univ (op := opTurn) (S := arrays) opTurn_bufs (V := V2 m d)) $$ [Hb Hw Ho H0 H1 H2 Hr Hrest]
  · isplitl [Hb]; · iexact Hb
    rw [held_V2]
    isplitl [Hw]; · iexact Hw
    isplitl [Ho]; · iexact Ho
    isplitl [H0]; · iexact H0
    isplitl [H1]; · iexact H1
    isplitl [H2]; · iexact H2
    isplitl [Hr]; · iexact Hr
    iexact Hrest
  iintro ⟨Hb, Hheld⟩
  ihave Hfin := (held_V3 (F := F) m d) $$ Hheld
  rw [wp_ret]; imodintro; imodintro
  isplitl [Hst]; · iexact Hst
  isplitl [Hfin]; · iexact Hfin
  isplitl [Hb] <;> iassumption

/-! ## The program's run -/

/-- What the claim reads off the last memory on device `d`. -/
def fq (d : Dev nD) (s' : Phys nD τ sig (Elt F)) : Prop :=
  s'.mem.mem (at0 d) = m (at0 d) ∧ s'.mem.mem (at1 d) = m (at1 d) ∧ s'.mem.mem (at2 d) = m (at2 d) ∧ s'.mem.mem (rLoc d) = result m d

/-- An array held whole holds what the memory does, and stays held with the memory. -/
theorem agrees {ℓ : Loc nD τ sig} {f : Buf (Elt F) ℓ} {s' : Phys nD τ sig (Elt F)} :
    (iprop(SI s' ∗ ℓ ↦{fullShare} f) : sProp 𝕄) ⊢ iprop(⌜s'.mem.mem ℓ = f⌝ ∗ SI s' ∗ ℓ ↦{fullShare} f) := by
  iintro H
  ihave H := (persistent_entails_right (SI_pointsTo_agree (st := s') (ℓ := ℓ) (I := Finset.univ) (q := fullShare) (f := f))) $$ H
  icases H with ⟨%h, HSI, Hp⟩
  isplitr
  · ipureintro; exact funext fun i => h i (Finset.mem_univ i)
  isplitl [HSI]; · iexact HSI
  iexact Hp

/-- The arrays handed over show it. -/
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (agrees (F := F) (ℓ := at0 d)) $$ [HSI H0]
  · isplitl [HSI] <;> iassumption
  icases H with ⟨%h0, HSI, -⟩
  ihave H := (agrees (F := F) (ℓ := at1 d)) $$ [HSI H1]
  · isplitl [HSI] <;> iassumption
  icases H with ⟨%h1, HSI, -⟩
  ihave H := (agrees (F := F) (ℓ := at2 d)) $$ [HSI H2]
  · isplitl [HSI] <;> iassumption
  icases H with ⟨%h2, HSI, -⟩
  ihave H := (agrees (F := F) (ℓ := rLoc d)) $$ [HSI Hr]
  · isplitl [HSI] <;> iassumption
  icases H with ⟨%h3, -, -⟩
  ipureintro; exact ⟨h0, h1, h2, h3⟩

/-- A run's end: on every device the arguments are unchanged and the result is what it is to be; every counter is at zero. -/
def QC : PUnit × MemSt nD τ sig (Elt F) → Prop := fun r =>
  (∀ c : Dev nD, r.2.mem (at0 c) = m (at0 c) ∧ r.2.mem (at1 c) = m (at1 c) ∧ r.2.mem (at2 c) = m (at2 c) ∧ r.2.mem (rLoc c) = result m c) ∧ r.2.sem = fun _ => 0

/-- Every run of the kernel program ends, and ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (padded m) fun d => m (oLoc d)) (A := ∅) facts v₀
    (fun q hq => match q with | 0 => nomatch hq)
    (fun q _ => match q with | 0 => tileObl (padded m) (fun d => m (oLoc d)) facts)
    (fun q _ => SparseCore.Cfg.VecSplit.of_plain (vecSplit (padded m) (fun d => m (oLoc d)) q))
    m ρ main (fun _ => iprop(emp)) (FIN m) (u₀ (F := F)) (sep_elim_left.trans (hu₀ (padded m) fun d => m (oLoc d))) (hmain m ρ) (fq m) (hfin m) (QC m) (fun _ h hz => ⟨h, hz⟩)

end Cert.Run

end
-- ==== Proof.RefThreefry.lean ====
/- The reference's Threefry function: its operations as a list built from rounds and key injections, and what the list leaves in its two results,
   read one round at a time. -/
module

public import proofs.«01_k».proof.Proof.Threefry
public import proofs.«01_k».proof.Proof.Gen.ReferenceIdeal
public import Idealize.ShloMosaic.Lib.StableHlo.RunHlo

@[expose] public section

noncomputable section

namespace Cert.RefRun

open Idealize.ShloMosaic Idealize.SL.Sem Cert.ReferenceIdeal Cert.ReferenceIdeal.Gen Idealize.ShloMosaic.StableHlo Cert.Threefry

variable {F : FTy → Type} [FloatOps F]

/-- A typed reference to one word, and to one word per row. -/
abbrev Word : Type := TRef sig ⟨S_, .i32⟩
@[inherit_doc Word]
abbrev Wide : Type := TRef sig ⟨S1x16384, .i32⟩
/-- What the device's buffers hold. -/
abbrev Mem (F : FTy → Type) : Type := Valuation τ sig (Elt F)

/-- The tensor value a typed reference's buffer holds. -/
def val (V : Mem F) {T : BufTy} (x : TRef sig T) : T.Contents (Elt F) := x.ofBuf (V (Proc.devRef .tc x.ref))

section
variable {T Ta Tb Ty : BufTy}

theorem val_nullary (V : Mem F) (y : TRef sig Ty) (v : Ty.Contents (Elt F)) : val ((TRef.nullary y v).result V) y = v := by
  unfold val; rw [nullary_result]; exact TRef.ofBuf_toBuf y v

theorem val_unary (V : Mem F) (x : TRef sig Ta) (y : TRef sig Ty) (f : Ta.Contents (Elt F) → Ty.Contents (Elt F)) :
    val ((TRef.unary x y f).result V) y = f (val V x) := by
  unfold val; rw [unary_result]; exact TRef.ofBuf_toBuf y _

theorem val_binary (V : Mem F) (a : TRef sig Ta) (b : TRef sig Tb) (y : TRef sig Ty)
    (f : Ta.Contents (Elt F) → Tb.Contents (Elt F) → Ty.Contents (Elt F)) :
    val ((TRef.binary a b y f).result V) y = f (val V a) (val V b) := by
  unfold val; rw [binary_result]; exact TRef.ofBuf_toBuf y _

/-- An operation that writes one reference leaves every other one's value. -/
theorem val_other (V : Mem F) (op : HloOp τ sig (Elt F)) (y : TRef sig Ty) (z : TRef sig T)
    (hw : op.writes = {Proc.devRef .tc y.ref}) (h : z.ref ≠ y.ref) : val (op.result V) z = val V z := by
  unfold val; rw [op.result_of_not_mem V (by rw [hw, Finset.mem_singleton]; exact devRef_ne_of_ne h)]

theorem val_nullary_ne (V : Mem F) (y : TRef sig Ty) (v : Ty.Contents (Elt F)) (z : TRef sig T) (h : z.ref ≠ y.ref) :
    val ((TRef.nullary y v).result V) z = val V z := val_other V _ y z rfl h

theorem val_unary_ne (V : Mem F) (x : TRef sig Ta) (y : TRef sig Ty) (f : Ta.Contents (Elt F) → Ty.Contents (Elt F))
    (z : TRef sig T) (h : z.ref ≠ y.ref) : val ((TRef.unary x y f).result V) z = val V z := val_other V _ y z rfl h

theorem val_binary_ne (V : Mem F) (a : TRef sig Ta) (b : TRef sig Tb) (y : TRef sig Ty)
    (f : Ta.Contents (Elt F) → Tb.Contents (Elt F) → Ty.Contents (Elt F)) (z : TRef sig T) (h : z.ref ≠ y.ref) :
    val ((TRef.binary a b y f).result V) z = val V z := val_other V _ y z rfl h

end

/-! ## Rounds and injections -/

/-- One word repeated over the rows. -/
abbrev spread : (⟨S_, .i32⟩ : BufTy).Contents (Elt F) → (⟨S1x16384, .i32⟩ : BufTy).Contents (Elt F) :=
  broadcastInDim S1x16384 ![] bcast_S_S1x16384

/-- The operations of one round: `s` takes the sum of `x` and `y`, `z` the mixed second word. -/
def turnOps (x y s : Wide) (c : Word) (b l : Wide) (d : Word) (e r o z : Wide) (n m : BitVec 32) : List (HloOp τ sig (Elt F)) :=
  [TRef.binary x y s addi, TRef.nullary c (constantI S_ 32 n), TRef.unary c b spread, TRef.binary y b l Host.shli,
   TRef.nullary d (constantI S_ 32 m), TRef.unary d e spread, TRef.binary y e r Host.shrui, TRef.binary l r o ori, TRef.binary s o z xori]

/-- The operations of a key injection: the key words `j` and `k` added to `x` and `y`, and the group's number `n` to the second. -/
def injectOps (x y : Wide) (j k : Word) (u x' w t : Wide) (c : Word) (v y' : Wide) (n : BitVec 32) : List (HloOp τ sig (Elt F)) :=
  [TRef.unary j u spread, TRef.binary x u x' addi, TRef.unary k w spread, TRef.binary y w t addi,
   TRef.nullary c (constantI S_ 32 n), TRef.unary c v spread, TRef.binary t v y' addi]

/-- The three key words' buffers. -/
abbrev key0 : Word := main_call0.v5
@[inherit_doc key0]
abbrev key1 : Word := main_call0.v7
@[inherit_doc key0]
abbrev key2 : Word := main_call0_call0.v1

/-- The references that the cipher's rounds leave alone and that are read after them: the key words, the arguments, and the draw's two bounds. -/
def kept : List (Ref sig .tc) :=
  [key0.ref, key1.ref, key2.ref, main_arg0, main_arg1, main_arg2, main_call0_v2, main_call0_v3]

/-- `x` and `y` hold the two halves of `p`, row by row, and the kept references what `V₀` has there. -/
structure Holds (V₀ V : Mem F) (x y : Wide) (p : S1x16384.Idx → Pair) : Prop where
  fst : val V x = fun i => (p i).1
  snd : val V y = fun i => (p i).2
  rest : ∀ r ∈ kept, V (Proc.devRef .tc r) = V₀ (Proc.devRef .tc r)

/-- The key words. -/
structure Keys (V : Mem F) : Prop where
  zero : val V key0 = fun _ => 0#32
  one : val V key1 = fun _ => 1#32
  two : val V key2 = fun _ => 466688987#32

/-- A line that writes none of the kept references leaves them. -/
theorem kept_after {V₀ V : Mem F} (ops : List (HloOp τ sig (Elt F))) (W : List (Ref sig .tc))
    (hW : ops.map HloOp.writes = W.map fun r => {Proc.devRef (τ := τ) .tc r}) (hk : ∀ r ∈ kept, r ∉ W)
    (h : ∀ r ∈ kept, V (Proc.devRef .tc r) = V₀ (Proc.devRef .tc r)) :
    ∀ r ∈ kept, after ops V (Proc.devRef .tc r) = V₀ (Proc.devRef .tc r) := fun r hr =>
  (after_of_writes_sub ops V (forall_writes_sub_of_map hW) (hk r hr)).trans (h r hr)

/-- A round's operations leave the round of what was held. -/
theorem Holds.turn {V₀ V : Mem F} {x y : Wide} {p : S1x16384.Idx → Pair} (h : Holds V₀ V x y p)
    {s : Wide} {c : Word} {b l : Wide} {d : Word} {e r o z : Wide} {n m : BitVec 32} (hn : n.toNat < 32 := by decide) (hm : m.toNat < 32 := by decide)
    (hk : ∀ r' ∈ kept, r' ∉ [s.ref, c.ref, b.ref, l.ref, d.ref, e.ref, r.ref, o.ref, z.ref] := by decide)
    (hd : [x.ref, y.ref, s.ref, c.ref, b.ref, l.ref, d.ref, e.ref, r.ref, o.ref, z.ref].Nodup := by decide) :
    Holds V₀ (after (turnOps x y s c b l d e r o z n m) V) s z (fun i => Threefry.turn n m (p i)) := by
  have hr := kept_after (turnOps x y s c b l d e r o z n m) _ rfl hk h.rest
  simp only [List.nodup_cons, List.mem_cons, List.not_mem_nil, or_false, not_or, List.nodup_nil, and_true, not_false_eq_true] at hd
  obtain ⟨hx, hy, hs, hc, hb, hl, hdd, he, hr', ho⟩ := hd
  refine ⟨?_, ?_, hr⟩ <;>
    simp only [turnOps, after_cons, after_nil] <;>
    simp (disch := simp [*]) only [val_nullary, val_unary, val_binary, val_nullary_ne, val_unary_ne, val_binary_ne, h.fst, h.snd] <;>
    funext i
  · rfl
  · simp only [spread, xori, ori, addi, Host.shli, Host.shrui, broadcastInDim, constantI, IntOp.shli, IntOp.shrui, IntOp.addi, IntOp.ori, IntOp.xori, hn, hm, if_true,
      Threefry.turn, Threefry.rot]

/-- An injection's operations leave the injection of what was held: `a` the word of key `j`, and `b` key `k`'s word and the group's number together. -/
theorem Holds.inject {V₀ V : Mem F} {x y : Wide} {p : S1x16384.Idx → Pair} (h : Holds V₀ V x y p)
    {j k : Word} {u x' w t : Wide} {c : Word} {v y' : Wide} {n a b g : BitVec 32}
    (hj : val V₀ j = fun _ => a) (hg : val V₀ k = fun _ => g) (hb : g + n = b := by decide)
    (hjk : j.ref ∈ kept ∧ k.ref ∈ kept := by decide)
    (hk : ∀ r' ∈ kept, r' ∉ [u.ref, x'.ref, w.ref, t.ref, c.ref, v.ref, y'.ref] := by decide)
    (hn : [x.ref, y.ref, u.ref, x'.ref, w.ref, t.ref, c.ref, v.ref, y'.ref].Nodup := by decide) :
    Holds V₀ (after (injectOps x y j k u x' w t c v y' n) V) x' y' (fun i => Threefry.inject a b (p i)) := by
  have hr := kept_after (injectOps x y j k u x' w t c v y' n) _ rfl hk h.rest
  have hj' : val V j = fun _ => a := by rw [← hj]; unfold val; rw [h.rest _ hjk.1]
  have hg' : val V k = fun _ => g := by rw [← hg]; unfold val; rw [h.rest _ hjk.2]
  have g1 := hk _ hjk.1
  have g2 := hk _ hjk.2
  simp only [List.nodup_cons, List.mem_cons, List.not_mem_nil, or_false, not_or, List.nodup_nil, and_true, not_false_eq_true] at hn g1 g2
  obtain ⟨hx, hy, h1, h2, h3, h4, h5, h6⟩ := hn
  refine ⟨?_, ?_, hr⟩ <;>
    simp only [injectOps, after_cons, after_nil] <;>
    simp (disch := simp [*]) only [val_nullary, val_unary, val_binary, val_nullary_ne, val_unary_ne, val_binary_ne, h.fst, h.snd, hj', hg'] <;>
    funext i
  · rfl
  · simp only [spread, addi, broadcastInDim, constantI, IntOp.addi, Threefry.inject, BitVec.add_assoc, hb]

/-- Two lines run one after the other. -/
theorem after_two (l₁ l₂ : List (HloOp τ sig (Elt F))) (V : Mem F) : after (l₁ ++ l₂) V = after l₂ (after l₁ V) := by
  induction l₁ generalizing V with
  | nil => rfl
  | cons op l ih => exact ih _

/-! ## The whole function -/

/-- The references the function's body writes. -/
abbrev φ := main_call0_call0
/-- The counter's two words. -/
abbrev hi : Wide := main_call0.v18
@[inherit_doc hi]
abbrev lo : Wide := main_call0.v17

/-- The third key word, and the first addition of the key to the counter. -/
def startOps : List (HloOp τ sig (Elt F)) :=
  [TRef.binary key0 key1 φ.v0 xori, TRef.nullary φ.c (constantI S_ 32 466688986#32), TRef.binary φ.v0 φ.c φ.v1 xori,
   TRef.unary key0 φ.v2 spread, TRef.binary hi φ.v2 φ.v3 addi, TRef.unary key1 φ.v4 spread, TRef.binary lo φ.v4 φ.v5 addi]

/-- Rounds 1 to 4 and the injection after them. -/
def group1 : List (HloOp τ sig (Elt F)) :=
  turnOps φ.v3 φ.v5 φ.v6 φ.c_0 φ.v7 φ.v8 φ.c_1 φ.v9 φ.v10 φ.v11 φ.v12 13#32 19#32 ++
  turnOps φ.v6 φ.v12 φ.v13 φ.c_2 φ.v14 φ.v15 φ.c_3 φ.v16 φ.v17 φ.v18 φ.v19 15#32 17#32 ++
  turnOps φ.v13 φ.v19 φ.v20 φ.c_4 φ.v21 φ.v22 φ.c_5 φ.v23 φ.v24 φ.v25 φ.v26 26#32 6#32 ++
  turnOps φ.v20 φ.v26 φ.v27 φ.c_6 φ.v28 φ.v29 φ.c_7 φ.v30 φ.v31 φ.v32 φ.v33 6#32 26#32 ++
  injectOps φ.v27 φ.v33 key1 key2 φ.v34 φ.v35 φ.v36 φ.v37 φ.c_8 φ.v38 φ.v39 1#32

/-- Rounds 5 to 8 and the injection after them. -/
def group2 : List (HloOp τ sig (Elt F)) :=
  turnOps φ.v35 φ.v39 φ.v40 φ.c_9 φ.v41 φ.v42 φ.c_10 φ.v43 φ.v44 φ.v45 φ.v46 17#32 15#32 ++
  turnOps φ.v40 φ.v46 φ.v47 φ.c_11 φ.v48 φ.v49 φ.c_12 φ.v50 φ.v51 φ.v52 φ.v53 29#32 3#32 ++
  turnOps φ.v47 φ.v53 φ.v54 φ.c_13 φ.v55 φ.v56 φ.c_14 φ.v57 φ.v58 φ.v59 φ.v60 16#32 16#32 ++
  turnOps φ.v54 φ.v60 φ.v61 φ.c_15 φ.v62 φ.v63 φ.c_16 φ.v64 φ.v65 φ.v66 φ.v67 24#32 8#32 ++
  injectOps φ.v61 φ.v67 key2 key0 φ.v68 φ.v69 φ.v70 φ.v71 φ.c_17 φ.v72 φ.v73 2#32

/-- Rounds 9 to 12 and the injection after them. -/
def group3 : List (HloOp τ sig (Elt F)) :=
  turnOps φ.v69 φ.v73 φ.v74 φ.c_18 φ.v75 φ.v76 φ.c_19 φ.v77 φ.v78 φ.v79 φ.v80 13#32 19#32 ++
  turnOps φ.v74 φ.v80 φ.v81 φ.c_20 φ.v82 φ.v83 φ.c_21 φ.v84 φ.v85 φ.v86 φ.v87 15#32 17#32 ++
  turnOps φ.v81 φ.v87 φ.v88 φ.c_22 φ.v89 φ.v90 φ.c_23 φ.v91 φ.v92 φ.v93 φ.v94 26#32 6#32 ++
  turnOps φ.v88 φ.v94 φ.v95 φ.c_24 φ.v96 φ.v97 φ.c_25 φ.v98 φ.v99 φ.v100 φ.v101 6#32 26#32 ++
  injectOps φ.v95 φ.v101 key0 key1 φ.v102 φ.v103 φ.v104 φ.v105 φ.c_26 φ.v106 φ.v107 3#32

/-- Rounds 13 to 16 and the injection after them. -/
def group4 : List (HloOp τ sig (Elt F)) :=
  turnOps φ.v103 φ.v107 φ.v108 φ.c_27 φ.v109 φ.v110 φ.c_28 φ.v111 φ.v112 φ.v113 φ.v114 17#32 15#32 ++
  turnOps φ.v108 φ.v114 φ.v115 φ.c_29 φ.v116 φ.v117 φ.c_30 φ.v118 φ.v119 φ.v120 φ.v121 29#32 3#32 ++
  turnOps φ.v115 φ.v121 φ.v122 φ.c_31 φ.v123 φ.v124 φ.c_32 φ.v125 φ.v126 φ.v127 φ.v128 16#32 16#32 ++
  turnOps φ.v122 φ.v128 φ.v129 φ.c_33 φ.v130 φ.v131 φ.c_34 φ.v132 φ.v133 φ.v134 φ.v135 24#32 8#32 ++
  injectOps φ.v129 φ.v135 key1 key2 φ.v136 φ.v137 φ.v138 φ.v139 φ.c_35 φ.v140 φ.v141 4#32

/-- Rounds 17 to 20 and the injection after them. -/
def group5 : List (HloOp τ sig (Elt F)) :=
  turnOps φ.v137 φ.v141 φ.v142 φ.c_36 φ.v143 φ.v144 φ.c_37 φ.v145 φ.v146 φ.v147 φ.v148 13#32 19#32 ++
  turnOps φ.v142 φ.v148 φ.v149 φ.c_38 φ.v150 φ.v151 φ.c_39 φ.v152 φ.v153 φ.v154 φ.v155 15#32 17#32 ++
  turnOps φ.v149 φ.v155 φ.v156 φ.c_40 φ.v157 φ.v158 φ.c_41 φ.v159 φ.v160 φ.v161 φ.v162 26#32 6#32 ++
  turnOps φ.v156 φ.v162 φ.v163 φ.c_42 φ.v164 φ.v165 φ.c_43 φ.v166 φ.v167 φ.v168 φ.v169 6#32 26#32 ++
  injectOps φ.v163 φ.v169 key2 key0 φ.v170 φ.v171 φ.v172 φ.v173 φ.c_44 φ.v174 φ.v175 5#32

/-- The cipher's operations, in order. -/
def cipherOps : List (HloOp τ sig (Elt F)) := startOps ++ group1 ++ group2 ++ group3 ++ group4 ++ group5

/-- What group 1 leaves. -/
theorem Holds.group1 {V₀ V : Mem F} {p : S1x16384.Idx → Pair} (K : Keys V₀) (h : Holds V₀ V φ.v3 φ.v5 p) :
    Holds V₀ (after group1 V) φ.v35 φ.v39 (fun i => Threefry.inject 1#32 466688988#32 (quadA (p i))) := by
  unfold RefRun.group1
  simp only [after_two]
  exact Holds.inject (Holds.turn (Holds.turn (Holds.turn (Holds.turn h)))) K.one K.two

/-- What group 2 leaves. -/
theorem Holds.group2 {V₀ V : Mem F} {p : S1x16384.Idx → Pair} (K : Keys V₀) (h : Holds V₀ V φ.v35 φ.v39 p) :
    Holds V₀ (after group2 V) φ.v69 φ.v73 (fun i => Threefry.inject 466688987#32 2#32 (quadB (p i))) := by
  unfold RefRun.group2
  simp only [after_two]
  exact Holds.inject (Holds.turn (Holds.turn (Holds.turn (Holds.turn h)))) K.two K.zero

/-- What group 3 leaves. -/
theorem Holds.group3 {V₀ V : Mem F} {p : S1x16384.Idx → Pair} (K : Keys V₀) (h : Holds V₀ V φ.v69 φ.v73 p) :
    Holds V₀ (after group3 V) φ.v103 φ.v107 (fun i => Threefry.inject 0#32 4#32 (quadA (p i))) := by
  unfold RefRun.group3
  simp only [after_two]
  exact Holds.inject (Holds.turn (Holds.turn (Holds.turn (Holds.turn h)))) K.zero K.one

/-- What group 4 leaves. -/
theorem Holds.group4 {V₀ V : Mem F} {p : S1x16384.Idx → Pair} (K : Keys V₀) (h : Holds V₀ V φ.v103 φ.v107 p) :
    Holds V₀ (after group4 V) φ.v137 φ.v141 (fun i => Threefry.inject 1#32 466688991#32 (quadB (p i))) := by
  unfold RefRun.group4
  simp only [after_two]
  exact Holds.inject (Holds.turn (Holds.turn (Holds.turn (Holds.turn h)))) K.one K.two

/-- What group 5 leaves. -/
theorem Holds.group5 {V₀ V : Mem F} {p : S1x16384.Idx → Pair} (K : Keys V₀) (h : Holds V₀ V φ.v137 φ.v141 p) :
    Holds V₀ (after group5 V) φ.v171 φ.v175 (fun i => Threefry.inject 466688987#32 5#32 (quadA (p i))) := by
  unfold RefRun.group5
  simp only [after_two]
  exact Holds.inject (Holds.turn (Holds.turn (Holds.turn (Holds.turn h)))) K.two K.zero

/-- What the cipher's operations leave in their two results, and what they keep, from a memory that holds the key `(0, 1)` and the counter `(0, x i)`. -/
theorem after_cipherOps {V : Mem F} {x : S1x16384.Idx → BitVec 32} (h0 : val V key0 = fun _ => 0#32) (h1 : val V key1 = fun _ => 1#32)
    (hhi : val V hi = fun _ => 0#32) (hlo : val V lo = x) :
    val (after cipherOps V) φ.v171 = (fun i => (cipher (x i + 1#32)).1) ∧ val (after cipherOps V) φ.v175 = (fun i => (cipher (x i + 1#32)).2)
      ∧ ∀ r ∈ [main_arg0, main_arg1, main_arg2, main_call0_v2, main_call0_v3],
          after cipherOps V (Proc.devRef .tc r) = V (Proc.devRef .tc r) := by
  have hs : ∀ r : Ref sig .tc, r ∉ [φ.v0.ref, φ.c.ref, φ.v1.ref, φ.v2.ref, φ.v3.ref, φ.v4.ref, φ.v5.ref] →
      after startOps V (Proc.devRef .tc r) = V (Proc.devRef .tc r) := fun r hr =>
    after_of_writes_sub startOps V (forall_writes_sub_of_map (W := [φ.v0.ref, φ.c.ref, φ.v1.ref, φ.v2.ref, φ.v3.ref, φ.v4.ref, φ.v5.ref]) rfl) hr
  have K : Keys (after startOps V) := by
    refine ⟨?_, ?_, ?_⟩
    · rw [← h0]; unfold val; rw [hs _ (by decide)]
    · rw [← h1]; unfold val; rw [hs _ (by decide)]
    · simp only [startOps, after_cons, after_nil]
      simp (disch := decide) only [val_nullary, val_unary, val_binary, val_nullary_ne, val_unary_ne, val_binary_ne, h0, h1]
      funext i
      show (0#32 ^^^ 1#32) ^^^ 466688986#32 = 466688987#32
      decide
  have S : Holds (after startOps V) (after startOps V) φ.v3 φ.v5 (fun i => (0#32, x i + 1#32)) := by
    refine ⟨?_, ?_, fun _ _ => rfl⟩ <;>
      simp only [startOps, after_cons, after_nil] <;>
      simp (disch := decide) only [val_nullary, val_unary, val_binary, val_nullary_ne, val_unary_ne, val_binary_ne, h0, h1, hhi, hlo] <;>
      rfl
  have R := ((((S.group1 K).group2 K).group3 K).group4 K).group5 K
  simp only [cipherOps, after_two]
  refine ⟨R.fst, R.snd, fun r hr => (R.rest r ?_).trans (hs r ?_)⟩
  · revert r; decide
  · revert r; decide

end Cert.RefRun

end
-- ==== Proof.RefRun.lean ====
/- The reference's run: its whole line of host operations, that its arguments stay, and what the operations before and after the Threefry function
   leave. -/
module

public import proofs.«01_k».proof.Proof.RefThreefry

@[expose] public section

noncomputable section

namespace Cert.RefRun

open Idealize.ShloMosaic Idealize.SL.Sem Cert.ReferenceIdeal Cert.ReferenceIdeal.Gen Idealize.ShloMosaic.StableHlo

variable {F : FTy → Type} [FloatOps F]

/-- The contents of a tensor value of shape `s` and elements `e`. -/
abbrev Tensor (F : FTy → Type) (s : Shape) (e : EltTy) : Type := BufTy.Contents (Elt F) ⟨s, e⟩

/-- The references the draw's body writes. -/
abbrev υ := main_call0
/-- The draw's arguments: the key, and the two bounds. -/
abbrev seed : TRef sig ⟨S2, .i32⟩ := .of main_v6
@[inherit_doc seed]
abbrev least : TRef sig ⟨S_, .f32⟩ := .of main_cst
@[inherit_doc seed]
abbrev most : TRef sig ⟨S_, .f32⟩ := .of main_cst_2

/-- The seed's key words, and the draw's two bounds. -/
def seedOps : List (HloOp τ sig (Elt F)) :=
  [nullary main_c (constantI S_ 32 1#32),
   nullary main_c_0 (constantI S_ 32 32#32),
   binary main_c main_c_0 main_v0 (Host.shrui : Tensor F S_ .i32 → Tensor F S_ .i32 → Tensor F S_ .i32),
   unary main_v0 main_v1 (id : Tensor F S_ .i32 → Tensor F S_ .i32),
   unary main_v1 main_v2 (broadcastInDim S1 ![] bcast_S_S1 : Tensor F S_ .i32 → Tensor F S1 .i32),
   nullary main_c_1 (constantI S_ 32 4294967295#32),
   binary main_c main_c_1 main_v3 (andi : Tensor F S_ .i32 → Tensor F S_ .i32 → Tensor F S_ .i32),
   unary main_v3 main_v4 (id : Tensor F S_ .i32 → Tensor F S_ .i32),
   unary main_v4 main_v5 (broadcastInDim S1 ![] bcast_S_S1 : Tensor F S_ .i32 → Tensor F S1 .i32),
   binary main_v2 main_v5 main_v6 ((fun a b => concatenate S2 0 [⟨S1, a⟩, ⟨S1, b⟩] concatenates_S1_S1_S2_d0) : Tensor F S1 .i32 → Tensor F S1 .i32 → Tensor F S2 .i32),
   nullary main_cst (constant S_ .f32 0x00000000#32),
   nullary main_cst_2 (constant S_ .f32 0x3F800000#32)]

/-- The key words taken apart and each row's counter. -/
def countOps : List (HloOp τ sig (Elt F)) :=
  [TRef.unary least υ.v0 id,
   TRef.unary most υ.v1 id,
   TRef.unary υ.v0 υ.v2 (broadcastInDim S1x1 ![] bcast_S_S1x1),
   TRef.unary υ.v1 υ.v3 (broadcastInDim S1x1 ![] bcast_S_S1x1),
   TRef.unary seed υ.v4 (extractStridedSlice S1 ![0] · slices_S2_S1_0),
   TRef.reshape υ.v4 υ.v5 rfl shapeCasts_S1_S_,
   TRef.unary seed υ.v6 (extractStridedSlice S1 ![1] · slices_S2_S1_1),
   TRef.reshape υ.v6 υ.v7 rfl shapeCasts_S1_S_,
   TRef.nullary υ.v8 (iotaInDim S1x16384 64 0),
   TRef.nullary υ.v9 (iotaInDim S1x16384 64 1),
   TRef.nullary υ.c (constantI S_ 64 16384#64),
   TRef.unary υ.c υ.v10 (broadcastInDim S1x16384 ![] bcast_S_S1x16384),
   TRef.binary υ.v10 υ.v8 υ.v11 muli,
   TRef.nullary υ.c_0 (constantI S_ 64 1#64),
   TRef.unary υ.c_0 υ.v12 (broadcastInDim S1x16384 ![] bcast_S_S1x16384),
   TRef.binary υ.v12 υ.v9 υ.v13 muli,
   TRef.binary υ.v11 υ.v13 υ.v14 addi,
   TRef.nullary υ.c_1 (constantI S_ 64 32#64),
   TRef.unary υ.c_1 υ.v15 (broadcastInDim S1x16384 ![] bcast_S_S1x16384),
   TRef.binary υ.v14 υ.v15 υ.v16 Host.shrui,
   TRef.unary υ.v14 υ.v17 (trunci 32 · natLt_32_64),
   TRef.unary υ.v16 υ.v18 (trunci 32 · natLt_32_64)]

/-- The cipher's words as floats between the bounds. -/
def drawOps : List (HloOp τ sig (Elt F)) :=
  [TRef.binary υ.call0.v171 υ.call0.v175 υ.v20 xori,
   TRef.nullary υ.c_2 (constantI S_ 32 9#32),
   TRef.unary υ.c_2 υ.v21 (broadcastInDim S1x16384 ![] bcast_S_S1x16384),
   TRef.binary υ.v20 υ.v21 υ.v22 Host.shrui,
   TRef.nullary υ.c_3 (constantI S_ 32 1065353216#32),
   TRef.unary υ.c_3 υ.v23 (broadcastInDim S1x16384 ![] bcast_S_S1x16384),
   TRef.binary υ.v22 υ.v23 υ.v24 ori,
   TRef.unary υ.v24 υ.v25 (bitcastToFloat .f32),
   TRef.nullary υ.cst (constant S_ .f32 0x3F800000#32),
   TRef.unary υ.cst υ.v26 (broadcastInDim S1x16384 ![] bcast_S_S1x16384),
   TRef.binary υ.v25 υ.v26 υ.v27 subf,
   TRef.binary υ.v3 υ.v2 υ.v28 subf,
   TRef.unary υ.v28 υ.v29 (broadcastInDim S1x16384 ![0, 1] bcast_S1x1_S1x16384_0_1),
   TRef.binary υ.v27 υ.v29 υ.v30 mulf,
   TRef.unary υ.v2 υ.v31 (broadcastInDim S1x16384 ![0, 1] bcast_S1x1_S1x16384_0_1),
   TRef.binary υ.v30 υ.v31 υ.v32 addf,
   TRef.unary υ.v2 υ.v33 (broadcastInDim S1x16384 ![0, 1] bcast_S1x1_S1x16384_0_1),
   TRef.binary υ.v33 υ.v32 υ.v34 maximumf]

/-- The column each row picks: the place of its one. -/
def pickOps : List (HloOp τ sig (Elt F)) :=
  [nullary main_cst_3 (constant S_ .f32 0x3F000000#32),
   unary main_cst_3 main_v8 (broadcastInDim S1x16384 ![] bcast_S_S1x16384 : Tensor F S_ .f32 → Tensor F S1x16384 .f32),
   binary main_v7 main_v8 main_v9 (cmpf .olt : Tensor F S1x16384 .f32 → Tensor F S1x16384 .f32 → Tensor F S1x16384 .i1),
   unary main_v9 main_v10 ((extui 32 · natLt_1_32) : Tensor F S1x16384 .i1 → Tensor F S1x16384 .i32),
   nullary main_cst_4 (constant S_ .f32 0x00000000#32),
   unary main_cst_4 main_v11 (broadcastInDim S16384x2 ![] bcast_S_S16384x2 : Tensor F S_ .f32 → Tensor F S16384x2 .f32),
   nullary main_v12 (iotaInDim S16384 32 0),
   reshape main_v10 main_v13 rfl shapeCasts_S1x16384_S16384,
   nullary main_c_5 (constantI S_ 32 0#32),
   unary main_c_5 main_v14 (broadcastInDim S16384 ![] bcast_S_S16384 : Tensor F S_ .i32 → Tensor F S16384 .i32),
   binary main_v12 main_v14 main_v15 (cmpi .slt : Tensor F S16384 .i32 → Tensor F S16384 .i32 → Tensor F S16384 .i1),
   nullary main_c_6 (constantI S_ 32 16384#32),
   unary main_c_6 main_v16 (broadcastInDim S16384 ![] bcast_S_S16384 : Tensor F S_ .i32 → Tensor F S16384 .i32),
   binary main_v12 main_v16 main_v17 (addi : Tensor F S16384 .i32 → Tensor F S16384 .i32 → Tensor F S16384 .i32),
   ternary main_v15 main_v17 main_v12 main_v18 (select : Tensor F S16384 .i1 → Tensor F S16384 .i32 → Tensor F S16384 .i32 → Tensor F S16384 .i32),
   nullary main_c_7 (constantI S_ 32 0#32),
   unary main_c_7 main_v19 (broadcastInDim S16384 ![] bcast_S_S16384 : Tensor F S_ .i32 → Tensor F S16384 .i32),
   binary main_v13 main_v19 main_v20 (cmpi .slt : Tensor F S16384 .i32 → Tensor F S16384 .i32 → Tensor F S16384 .i1),
   nullary main_c_8 (constantI S_ 32 2#32),
   unary main_c_8 main_v21 (broadcastInDim S16384 ![] bcast_S_S16384 : Tensor F S_ .i32 → Tensor F S16384 .i32),
   binary main_v13 main_v21 main_v22 (addi : Tensor F S16384 .i32 → Tensor F S16384 .i32 → Tensor F S16384 .i32),
   ternary main_v20 main_v22 main_v13 main_v23 (select : Tensor F S16384 .i1 → Tensor F S16384 .i32 → Tensor F S16384 .i32 → Tensor F S16384 .i32),
   unary main_v18 main_v24 (broadcastInDim S16384x1 ![0] bcast_S16384_S16384x1_0 : Tensor F S16384 .i32 → Tensor F S16384x1 .i32),
   unary main_v23 main_v25 (broadcastInDim S16384x1 ![0] bcast_S16384_S16384x1_0 : Tensor F S16384 .i32 → Tensor F S16384x1 .i32)]

/-- The one-hot rows, and their product with the table. -/
def lastOps : List (HloOp τ sig (Elt F)) :=
  [binary main_v24 main_v25 main_v26 ((fun a b => concatenate S16384x2 1 [⟨S16384x1, a⟩, ⟨S16384x1, b⟩] concatenates_S16384x1_S16384x1_S16384x2_d1) : Tensor F S16384x1 .i32 → Tensor F S16384x1 .i32 → Tensor F S16384x2 .i32),
   nullary main_cst_9 (constant S_ .f32 0x3F800000#32),
   unary main_cst_9 main_v27 (broadcastInDim S16384 ![] bcast_S_S16384 : Tensor F S_ .f32 → Tensor F S16384 .f32),
   ternary main_v11 main_v26 main_v27 main_v28 ((fun x i u => Host.scatter scatter_S16384x2_S16384x2_S16384_n_01_01_1 (fun _ b => b) x i u) : Tensor F S16384x2 .f32 → Tensor F S16384x2 .i32 → Tensor F S16384 .f32 → Tensor F S16384x2 .f32),
   unary main_arg2 main_v29 ((transpose S2x2 [1, 0] · transposes_S2x2_S2x2_1_0) : Tensor F S2x2 .f32 → Tensor F S2x2 .f32),
   binary main_v28 main_v29 main_v30 ((fun l r => Host.dotGeneral dot_S16384x2_S2x2_S16384x2_1_0_0_1_n_n none l r) : Tensor F S16384x2 .f32 → Tensor F S2x2 .f32 → Tensor F S16384x2 .f32)]

/-- The reference's operations, in order. -/
def ops : List (HloOp τ sig (Elt F)) := seedOps ++ (countOps ++ (cipherOps ++ (drawOps ++ (pickOps ++ lastOps))))

/-- The Threefry function's body is the line `cipherOps`. -/
theorem cipher_eq : fn_threefry2x32.body (F := F) key0 key1 hi lo φ = seq cipherOps := by
  have h : ∀ (n : ℕ) (l : List (HloOp τ sig (Elt F))),
      (seq l : Prog (TpuEff nD τ sig (Elt F) (Pipeline.Sig Λ₀ (Fin 0) fun p => (pcfgs (F := F) p).Adm) .tc) PUnit) = seq (l.take n) >>= fun _ => seq (l.drop n) :=
    fun n l => by rw [← seq_append, List.take_append_drop]
  rw [h 60 cipherOps, h 60 (cipherOps.drop 60), h 60 ((cipherOps.drop 60).drop 60)]
  rfl

/-- The draw's body is `countOps`, the Threefry function and `drawOps`. -/
theorem draw_eq : fn_uniform.body (F := F) seed least most main_call0
    = seq countOps >>= fun _ => seq cipherOps >>= fun _ => seq drawOps := by
  rw [← cipher_eq, seq_bind_seqK]
  rfl

/-- The reference is its line of operations. -/
theorem main_eq (d : Dev nD) : main (F := F) d = seq ops := by
  have h : main (F := F) d = seq seedOps >>= fun _ => fn_uniform.body seed least most main_call0 >>= fun _ => seq (pickOps ++ lastOps) := by
    rw [seq_bind_seqK]
    rfl
  rw [h, draw_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem turnOps_sub (x y s : Wide) (c : Word) (b l : Wide) (d : Word) (e r o z : Wide) (n m : BitVec 32) :
    (turnOps x y s c b l d e r o z n m : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub ..⟩

theorem injectOps_sub (x y : Wide) (j k : Word) (u x' w t : Wide) (c : Word) (v y' : Wide) (n : BitVec 32) :
    (injectOps x y j k u x' w t c v y' n : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩

/-- Every operation of the reference touches TensorCore buffers only. -/
theorem ops_sub : (ops : List (HloOp τ sig (Elt F))).Forall fun op => op.bufs ⊆ tcRefs τ sig := by
  simp only [ops, cipherOps, group1, group2, group3, group4, group5, List.forall_append, turnOps_sub, injectOps_sub, and_true]
  refine ⟨?_, ?_, ?_, ?_, ?_, ?_⟩
  · exact ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩
  · exact ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
  · exact ⟨binary_bufs_sub .., nullary_bufs_sub .., binary_bufs_sub .., unary_bufs_sub .., binary_bufs_sub .., unary_bufs_sub .., binary_bufs_sub ..⟩
  · exact ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩
  · exact ⟨nullary_bufs_sub .., unary_bufs_sub .., binary_bufs_sub .., unary_bufs_sub .., nullary_bufs_sub .., unary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
  · exact ⟨binary_bufs_sub .., nullary_bufs_sub .., unary_bufs_sub .., ternary_bufs_sub .., unary_bufs_sub .., binary_bufs_sub ..⟩

/-- The run: every weakly fair execution ends, each buffer of the TensorCore at the fold of the operations over the launch's contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    fun _ => List.forall_iff_forall_mem.mp (forall_fresh_of_map rfl)

/-- What the seed operations do not write stays. -/
theorem seedOps_kept (V : Mem F) {r : Ref sig .tc} (hr : r ∉ [main_c, main_c_0, main_v0, main_v1, main_v2, main_c_1, main_v3, main_v4, main_v5, main_v6, main_cst, main_cst_2]) :
    after seedOps V (Proc.devRef .tc r) = V (Proc.devRef .tc r) :=
  after_of_writes_sub seedOps V (forall_writes_sub_of_map rfl) hr

/-- What the counting operations do not write stays. -/
theorem countOps_kept (V : Mem F) {r : Ref sig .tc} (hr : r ∉ [υ.v0.ref, υ.v1.ref, υ.v2.ref, υ.v3.ref, υ.v4.ref, υ.v5.ref, υ.v6.ref, υ.v7.ref, υ.v8.ref, υ.v9.ref, υ.c.ref, υ.v10.ref, υ.v11.ref, υ.c_0.ref, υ.v12.ref, υ.v13.ref, υ.v14.ref, υ.c_1.ref, υ.v15.ref, υ.v16.ref, υ.v17.ref, υ.v18.ref]) :
    after countOps V (Proc.devRef .tc r) = V (Proc.devRef .tc r) :=
  after_of_writes_sub countOps V (forall_writes_sub_of_map rfl) hr

/-- What the draw's operations do not write stays. -/
theorem drawOps_kept (V : Mem F) {r : Ref sig .tc} (hr : r ∉ [υ.v20.ref, υ.c_2.ref, υ.v21.ref, υ.v22.ref, υ.c_3.ref, υ.v23.ref, υ.v24.ref, υ.v25.ref, υ.cst.ref, υ.v26.ref, υ.v27.ref, υ.v28.ref, υ.v29.ref, υ.v30.ref, υ.v31.ref, υ.v32.ref, υ.v33.ref, υ.v34.ref]) :
    after drawOps V (Proc.devRef .tc r) = V (Proc.devRef .tc r) :=
  after_of_writes_sub drawOps V (forall_writes_sub_of_map rfl) hr

/-- What the picking operations do not write stays. -/
theorem pickOps_kept (V : Mem F) {r : Ref sig .tc} (hr : r ∉ [main_cst_3, main_v8, main_v9, main_v10, main_cst_4, main_v11, main_v12, main_v13, main_c_5, main_v14, main_v15, main_c_6, main_v16, main_v17, main_v18, main_c_7, main_v19, main_v20, main_c_8, main_v21, main_v22, main_v23, main_v24, main_v25]) :
    after pickOps V (Proc.devRef .tc r) = V (Proc.devRef .tc r) :=
  after_of_writes_sub pickOps V (forall_writes_sub_of_map rfl) hr

/-- What the last operations do not write stays. -/
theorem lastOps_kept (V : Mem F) {r : Ref sig .tc} (hr : r ∉ [main_v26, main_cst_9, main_v27, main_v28, main_v29, main_v30]) :
    after lastOps V (Proc.devRef .tc r) = V (Proc.devRef .tc r) :=
  after_of_writes_sub lastOps V (forall_writes_sub_of_map rfl) hr

end Cert.RefRun

end
-- ==== Proof.Draw.lean ====
/- A uniform draw over the extended reals: it lies below one half exactly when its random word's top bit is clear. -/
module

public import Idealize.ShloMosaic.Lib.IdealHost
public import Idealize.ShloMosaic.PureOps.Ideal.Laws

@[expose] public section

noncomputable section

namespace Cert.Draw

open Idealize.ShloMosaic

/-- The pattern of a float in `[1, 2)` whose significand is the upper 23 bits of the word, as a number. -/
theorem pattern_toNat (h : BitVec 32) : (h >>> 9 ||| 1065353216#32).toNat = 127 * 2 ^ 23 + h.toNat / 512 := by
  have hl : h.toNat / 512 < 2 ^ 23 := by have := h.isLt; omega
  have := Nat.shiftLeft_add_eq_or_of_lt hl 127
  rw [Nat.shiftLeft_eq] at this
  rw [BitVec.toNat_or, BitVec.toNat_ushiftRight, Nat.shiftRight_eq_div_pow, this, Nat.or_comm]
  rfl

/-- That float. -/
theorem pattern_val (h : BitVec 32) : Ideal.ofBits .f32 (h >>> 9 ||| 1065353216#32) = ((1 + (h.toNat / 512 : ℕ) / 2 ^ 23 : ℝ) : EReal) := by
  have hl : h.toNat / 512 < 2 ^ 23 := by have := h.isLt; omega
  have e := pattern_toNat h
  have hs : (h >>> 9 ||| 1065353216#32).extractLsb' 31 1 = 0#1 := by
    apply BitVec.eq_of_toNat_eq
    rw [BitVec.extractLsb'_toNat, e, Nat.shiftRight_eq_div_pow]
    simp only [BitVec.toNat_ofNat]
    omega
  have hx : ((h >>> 9 ||| 1065353216#32).extractLsb' 23 8).toNat = 127 := by
    rw [BitVec.extractLsb'_toNat, e, Nat.shiftRight_eq_div_pow]
    omega
  have hf : ((h >>> 9 ||| 1065353216#32).extractLsb' 0 23).toNat = h.toNat / 512 := by
    rw [BitVec.extractLsb'_toNat, e, Nat.shiftRight_eq_div_pow]
    omega
  generalize h.toNat / 512 = n at *
  show Ideal.ieee 8 23 _ = _
  unfold Ideal.ieee
  simp only [Nat.reduceAdd, hs, hx, hf]
  rw [if_neg (by norm_num), if_neg (by norm_num)]
  congr 1
  norm_num
  ring

/-- One half. -/
theorem half_val : Ideal.ofBits .f32 0x3F000000#32 = ((1 / 2 : ℝ) : EReal) := by
  simp [Ideal.ofBits, Ideal.ieee, -EReal.coe_mul]
  norm_num

/-- A draw between zero and one lies below one half exactly when the word's top bit is clear. -/
theorem draw_lt (h : BitVec 32) :
    Ideal.cmp .olt (max (0 : EReal) ((Ideal.ofBits .f32 (h >>> 9 ||| 1065353216#32) - 1) * (1 - 0) + 0)) (Ideal.ofBits .f32 0x3F000000#32)
      = if h >>> 31 = 0#32 then 1#1 else 0#1 := by
  have hv : max (0 : EReal) ((Ideal.ofBits .f32 (h >>> 9 ||| 1065353216#32) - 1) * (1 - 0) + 0) = (((h.toNat / 512 : ℕ) / 2 ^ 23 : ℝ) : EReal) := by
    rw [pattern_val, sub_zero, mul_one, add_zero, ← EReal.coe_one, ← EReal.coe_sub, add_sub_cancel_left]
    exact max_eq_right (by exact_mod_cast (by positivity : (0 : ℝ) ≤ (h.toNat / 512 : ℕ) / 2 ^ 23))
  have hb : h >>> 31 = 0#32 ↔ h.toNat / 512 < 2 ^ 22 := by
    rw [← BitVec.toNat_inj, BitVec.toNat_ushiftRight, Nat.shiftRight_eq_div_pow]
    simp only [BitVec.toNat_ofNat]
    have := h.isLt
    omega
  have hc : (((h.toNat / 512 : ℕ) / 2 ^ 23 : ℝ) : EReal) < ((1 / 2 : ℝ) : EReal) ↔ h >>> 31 = 0#32 := by
    rw [hb, EReal.coe_lt_coe_iff, div_lt_iff₀ (by positivity), ← Nat.cast_lt (α := ℝ)]
    norm_num
  rw [hv, half_val]
  by_cases hq : h >>> 31 = 0#32
  · rw [if_pos hq]
    show BitVec.ofBool (decide _) = _
    rw [decide_eq_true (hc.2 hq)]
    rfl
  · rw [if_neg hq]
    show BitVec.ofBool (decide _) = _
    rw [decide_eq_false fun q => hq (hc.1 q)]
    rfl

end Cert.Draw

end
-- ==== Proof.RefValue.lean ====
/- The value of the reference: each row takes the table's column that the top bit of the row's random word chooses. -/
module

public import proofs.«01_k».proof.Proof.RefRun
public import proofs.«01_k».proof.Proof.Draw
public import Idealize.ShloMosaic.Lib.Routing.OpsSet
public import Idealize.ShloMosaic.Lib.StackMember
public import Idealize.ShloMosaic.Lib.StableHlo.ReadAt

@[expose] public section

noncomputable section

namespace Cert.RefRun

open Idealize.ShloMosaic Idealize.SL.Sem Cert.ReferenceIdeal Cert.ReferenceIdeal.Gen Idealize.ShloMosaic.StableHlo Cert.Threefry

variable {F : FTy → Type} [FloatOps F]

/-- The seed's key is the words 0 and 1. -/
theorem seeded (V : Mem F) : val (after seedOps V) seed = fun i => BitVec.ofNat 32 (i 0).val := by
  have e : (seedOps : List (HloOp τ sig (Elt F))) = seedOps.take 9 ++ seedOps.drop 9 := rfl
  have h2 : val (after (seedOps.take 9) V) (.of main_v2 : TRef sig ⟨S1, .i32⟩) = fun _ => 0#32 := by
    unfold val seedOps
    simp only [List.take]
    after_results_simp
    rfl
  have h5 : val (after (seedOps.take 9) V) (.of main_v5 : TRef sig ⟨S1, .i32⟩) = fun _ => 1#32 := by
    unfold val seedOps
    simp only [List.take]
    after_results_simp
    funext i
    show 1#32 &&& 4294967295#32 = 1#32
    decide
  rw [e, after_two]
  generalize after (seedOps.take 9) V = V' at *
  unfold val seedOps at *
  simp only [List.drop, cast_eq] at *
  after_results_simp
  rw [h2, h5]
  funext i
  have hi : i = ix1 (i 0) := by funext a; fin_cases a; rfl
  rw [hi]
  generalize (i 0 : Fin 2) = k
  fin_cases k <;> rfl

/-- The draw's bounds are zero and one. -/
theorem seeded_least (V : Mem F) : val (after seedOps V) least = constant S_ .f32 0x00000000#32 := by
  unfold val seedOps
  after_results_simp
  rfl
@[inherit_doc seeded_least]
theorem seeded_most (V : Mem F) : val (after seedOps V) most = constant S_ .f32 0x3F800000#32 := by
  unfold val seedOps
  after_results_simp
  rfl

/-- The key's words, taken apart. -/
theorem counted_keys {V : Mem F} (h : val V seed = fun i => BitVec.ofNat 32 (i 0).val) :
    val (after countOps V) key0 = (fun _ => 0#32) ∧ val (after countOps V) key1 = fun _ => 1#32 := by
  unfold val countOps at *
  constructor <;> after_results_simp <;> simp only [cast_eq] at * <;> rw [h] <;> funext i
  · exact congrArg (fun k : Fin 1 => BitVec.ofNat 32 (0 + k.val)) (Subsingleton.elim _ 0)
  · exact congrArg (fun k : Fin 1 => BitVec.ofNat 32 (1 + k.val)) (Subsingleton.elim _ 0)

/-- A row's counter: its number, as a word of 64 bits, in two halves. -/
theorem counted (V : Mem F) :
    val (after countOps V) hi = (fun _ => 0#32) ∧ val (after countOps V) lo = fun i => BitVec.ofNat 32 (i 1).val := by
  unfold val countOps
  constructor <;> after_results_simp <;> simp only [cast_eq]  <;> funext i
  · pointwise
    have h := (i 1).isLt
    generalize (i 1).val = k at *
    simp only [IntOp.shrui, IntOp.addi, IntOp.muli, BitVec.mul_zero, BitVec.zero_add, BitVec.one_mul]
    rw [if_pos (by decide)]
    apply BitVec.eq_of_toNat_eq
    simp only [BitVec.ushiftRight_eq', BitVec.toNat_setWidth, BitVec.toNat_ushiftRight, BitVec.toNat_ofNat, Nat.shiftRight_eq_div_pow]
    have hk : k < 16384 := h
    rw [Nat.div_eq_of_lt ((Nat.mod_le _ _).trans_lt (hk.trans (by decide)))]
  · pointwise
    simp only [IntOp.addi, IntOp.muli, BitVec.mul_zero, BitVec.zero_add, BitVec.one_mul]
    apply BitVec.eq_of_toNat_eq
    simp only [BitVec.toNat_setWidth, BitVec.toNat_ofNat]
    omega

/-- The bounds, as one-entry tables. -/
theorem counted_bounds {V : Mem F} {a b : F .f32} (ha : val V least = fun _ => a) (hb : val V most = fun _ => b) :
    val (after countOps V) υ.v2 = (fun _ => a) ∧ val (after countOps V) υ.v3 = fun _ => b := by
  unfold val countOps at *
  constructor <;> after_results_simp <;> simp only [cast_eq] at *
  · rw [ha]
    rfl
  · rw [hb]
    rfl

/-- Each row's draw. -/
theorem drawn {V : Mem Ideal} {a b : S1x16384.Idx → BitVec 32} {l u : EReal} (h2 : val V υ.v2 = fun _ => l) (h3 : val V υ.v3 = fun _ => u)
    (ha : val V φ.v171 = a) (hb : val V φ.v175 = b) : val (after drawOps V) υ.v34 = fun i =>
      max l ((Ideal.ofBits .f32 ((a i ^^^ b i) >>> 9 ||| 1065353216#32) - Ideal.ofBits .f32 0x3F800000#32) * (u - l) + l) := by
  unfold val drawOps at *
  after_results_simp
  simp only [cast_eq] at *
  rw [h2, h3, ha, hb]
  rfl

/-- The first column of the scatter's places: the row. -/
theorem picked_row (V : Mem F) : val (after pickOps V) (.of main_v24 : TRef sig ⟨S16384x1, .i32⟩) = fun i => BitVec.ofNat 32 (i 0).val := by
  unfold val pickOps
  after_results_simp
  simp only [cast_eq]
  funext i
  pointwise
  have h : (i 0).val < 16384 := (i 0).isLt
  refine Routing.wrap_of_lt _ _ ?_
  rw [BitVec.toNat_ofNat]
  omega

/-- The second: one where the draw lies below one half, else zero. -/
theorem picked {V : Mem Ideal} {f : S1x16384.Idx → EReal} (h : val V υ.v34 = f) :
    val (after pickOps V) (.of main_v25 : TRef sig ⟨S16384x1, .i32⟩) =
      fun i : S16384x1.Idx => (Ideal.cmp .olt (f (ix2 0 (i 0))) (Ideal.ofBits .f32 0x3F000000#32)).setWidth 32 := by
  unfold val pickOps at *
  after_results_simp
  simp only [cast_eq] at *
  rw [h]
  funext i
  pointwise
  refine Routing.wrap_of_lt _ _ ?_
  rw [BitVec.toNat_setWidth]
  have := (Ideal.cmp .olt (f (ix2 0 (i 0))) (Ideal.ofBits .f32 0x3F000000#32)).isLt
  change _ % _ < _
  omega

/-- The zeros that the scatter writes into. -/
theorem picked_zeros (V : Mem Ideal) : val (after pickOps V) (.of main_v11 : TRef sig ⟨S16384x2, .f32⟩) = fun _ => (0 : EReal) := by
  unfold val pickOps
  after_results_simp
  simp only [cast_eq]
  funext i
  exact Ideal.ofBits_zero_f32

/-- A scatter of ones at one place of each row is one there and zero elsewhere. -/
theorem oneHot {row col : S16384x1.Idx → BitVec 32} {p : Fin 16384 → Fin 2} (hr : ∀ r, row (ix2 r 0) = BitVec.ofNat 32 r.val)
    (hc : ∀ r, col (ix2 r 0) = BitVec.ofNat 32 (p r).val) (r : Fin 16384) (k : Fin 2) :
    Host.scatter scatter_S16384x2_S16384x2_S16384_n_01_01_1 (fun _ b => b) (fun _ => (0 : EReal))
        (concatenate S16384x2 1 [⟨S16384x1, row⟩, ⟨S16384x1, col⟩] concatenates_S16384x1_S16384x1_S16384x2_d1) (fun _ => (1 : EReal)) (ix2 r k)
      = if k = p r then 1 else 0 := by
  generalize hx : concatenate S16384x2 1 [⟨S16384x1, row⟩, ⟨S16384x1, col⟩] concatenates_S16384x1_S16384x1_S16384x2_d1 = x
  have h0 : ∀ q : Fin 16384, x (ix2 q 0) = BitVec.ofNat 32 q.val := fun q => by
    rw [← hx, ← hr q]
    pointwise
  have h1 : ∀ q : Fin 16384, x (ix2 q 1) = BitVec.ofNat 32 (p q).val := fun q => by
    rw [← hx, ← hc q]
    pointwise
  have h : ∀ (q r : Fin 16384) (k : Fin 2), (scatter_S16384x2_S16384x2_S16384_n_01_01_1).resultIdx? (ix1 q) x = some (ix2 r k) ↔ q = r ∧ p q = k := by
    intro q r k
    have s0 : (scatter_S16384x2_S16384x2_S16384_n_01_01_1).start (ix1 q) x 0 = (x (ix2 q 0)).toInt := by
      refine congrArg (fun i => (x i).toInt) ?_
      funext b
      fin_cases b <;> rfl
    have s1 : (scatter_S16384x2_S16384x2_S16384_n_01_01_1).start (ix1 q) x 1 = (x (ix2 q 1)).toInt := by
      refine congrArg (fun i => (x i).toInt) ?_
      funext b
      fin_cases b <;> rfl
    have w : ∀ a : Fin 2, (scatter_S16384x2_S16384x2_S16384_n_01_01_1).window (ix1 q) a = 0 := by
      intro a
      fin_cases a <;> rfl
    have t : ∀ n : ℕ, n < 16384 → (BitVec.ofNat 32 n).toInt = n := fun n hn => by
      rw [BitVec.toInt_eq_toNat_of_lt] <;> rw [BitVec.toNat_ofNat] <;> omega
    refine (Routing.resultIdx?_ix2 _ _ _ _ _).trans ?_
    rw [s0, s1, w, w, h0, h1, t _ q.isLt, t _ (by omega)]
    omega
  by_cases hk : k = p r
  · rw [if_pos hk]
    exact Routing.scatter_set_hit _ _ _ _ _ _ (fun _ _ => rfl) (ix1 r) ((h r r k).2 ⟨rfl, hk.symm⟩)
  · rw [if_neg hk]
    refine Routing.scatter_set_miss _ _ _ _ _ fun i hi => ?_
    have e : i = ix1 (i 0) := by funext a; fin_cases a; rfl
    rw [e] at hi
    have := (h _ r k).1 hi
    exact hk (by rw [← this.2, this.1])

/-- The last operations leave, at a row and a column, the table's entry of that column (read across) at the row's place. -/
theorem lasted {V : Mem Ideal} {p : Fin 16384 → Fin 2} {w : S2x2.Idx → EReal} (hz : val V (.of main_v11 : TRef sig ⟨S16384x2, .f32⟩) = fun _ => (0 : EReal))
    (hr : val V (.of main_v24 : TRef sig ⟨S16384x1, .i32⟩) = fun i : S16384x1.Idx => BitVec.ofNat 32 (i 0).val)
    (hc : val V (.of main_v25 : TRef sig ⟨S16384x1, .i32⟩) = fun i : S16384x1.Idx => BitVec.ofNat 32 (p (i 0)).val)
    (hw : val V (.of main_arg2 : TRef sig ⟨S2x2, .f32⟩) = w) :
    val (after lastOps V) (.of main_v30 : TRef sig ⟨S16384x2, .f32⟩) = fun i : S16384x2.Idx => w (ix2 (i 1) (p (i 0))) := by
  unfold val lastOps at *
  after_results_simp
  simp only [cast_eq] at *
  rw [hz, hr, hc, hw]
  funext i
  have ho : broadcastInDim S16384 ![] bcast_S_S16384 (constant (F := Ideal) S_ .f32 0x3F800000#32) = fun _ => (1 : EReal) := funext fun _ => Ideal.ofBits_one_f32
  rw [ho]
  have hi : i = ValueIdx.ix2 (i 0) (i 1) := by
    funext a
    fin_cases a <;> rfl
  have oh := fun r => oneHot (row := fun i : S16384x1.Idx => BitVec.ofNat 32 (i 0).val) (col := fun i : S16384x1.Idx => BitVec.ofNat 32 (p (i 0)).val)
    (p := p) (fun _ => rfl) (fun _ => rfl) r
  generalize Host.scatter _ _ _ _ _ = A at *
  refine (congrArg _ hi).trans ((StackMember.dotGeneral_plain_apply (m := 16384) (k := 2) (n := 2) none _ _ (i 0) (i 1)).trans ?_)
  have e : ∀ k : Fin 2, transpose S2x2 [1, 0] w transposes_S2x2_S2x2_1_0 (ValueIdx.ix2 k (i 1)) = w (ix2 (i 1) k) := fun k => by
    pointwise
  have e' : ∀ k : Fin 2, A (ValueIdx.ix2 (i 0) k) = if k = p (i 0) then 1 else 0 := oh (i 0)
  rw [Fin.sum_univ_two, e, e, e', e']
  generalize p (i 0) = q
  fin_cases q
  · exact (congrArg₂ (· + ·) (one_mul _) (zero_mul _)).trans (add_zero _)
  · exact (congrArg₂ (· + ·) (zero_mul _) (one_mul _)).trans (zero_add _)

end Cert.RefRun

end
-- ==== Proof.Reference.lean ====
/- What the reference leaves: at a row and a column the table's entry of that column (read across), at the place that the top bit of the row's random
   word chooses; and that the reference's arguments and counters end as they began. -/
module

public import proofs.«01_k».proof.Proof.RefValue
public import proofs.«01_k».proof.Defs

@[expose] public section

noncomputable section

namespace Cert.RefRun

open Idealize.ShloMosaic Idealize.SL.Sem Cert.ReferenceIdeal Cert.ReferenceIdeal.Gen Idealize.ShloMosaic.StableHlo Cert.Threefry

variable {F : FTy → Type} [FloatOps F]

/-- The whole line, part after part. -/
theorem after_ops (V : Mem F) :
    after ops V = after lastOps (after pickOps (after drawOps (after cipherOps (after countOps (after seedOps V))))) := by
  simp only [ops, after_two]

/-- From the key and the counters, the two halves of every row's random word; the arguments and the draw's bounds stay. -/
theorem ciphered (V : Mem F) :
    val (after cipherOps (after countOps (after seedOps V))) φ.v171 = (fun i => (cipher (BitVec.ofNat 32 (i 1).val + 1#32)).1)
      ∧ val (after cipherOps (after countOps (after seedOps V))) φ.v175 = (fun i => (cipher (BitVec.ofNat 32 (i 1).val + 1#32)).2)
      ∧ ∀ r ∈ [main_arg0, main_arg1, main_arg2, main_call0_v2, main_call0_v3],
          after cipherOps (after countOps (after seedOps V)) (Proc.devRef .tc r) = after countOps (after seedOps V) (Proc.devRef .tc r) :=
  have hk := counted_keys (seeded V)
  have hc := counted (after seedOps V)
  after_cipherOps hk.1 hk.2 hc.1 hc.2

/-- No argument changes. -/
theorem args_kept (V : Mem F) : ∀ r ∈ [main_arg0, main_arg1, main_arg2], after ops V (Proc.devRef .tc r) = V (Proc.devRef .tc r) := by
  intro r hr
  have hs : r ∈ [main_arg0, main_arg1, main_arg2, main_call0_v2, main_call0_v3] := by
    simp only [List.mem_cons, List.not_mem_nil, or_false] at hr ⊢
    tauto
  rw [after_ops]
  simp only [List.mem_cons, List.not_mem_nil, or_false] at hr
  rw [lastOps_kept _ (by rcases hr with rfl | rfl | rfl <;> decide), pickOps_kept _ (by rcases hr with rfl | rfl | rfl <;> decide),
    drawOps_kept _ (by rcases hr with rfl | rfl | rfl <;> decide), (ciphered V).2.2 r hs,
    countOps_kept _ (by rcases hr with rfl | rfl | rfl <;> decide), seedOps_kept _ (by rcases hr with rfl | rfl | rfl <;> decide)]

/-- The place of the table that row `r` takes. -/
def place (r : Nat) : Fin 2 := if upper r then 0 else 1

/-- From a word's draw to a place in the table. -/
theorem chosen (h : BitVec 32) :
    (Ideal.cmp .olt (max (0 : EReal) ((Ideal.ofBits .f32 (h >>> 9 ||| 1065353216#32) - Ideal.ofBits .f32 0x3F800000#32) * (1 - 0) + 0))
      (Ideal.ofBits .f32 0x3F000000#32)).setWidth 32 = BitVec.ofNat 32 (if ¬ (h >>> 31#32 = 0#32) then (0 : Fin 2) else 1).val := by
  rw [Ideal.ofBits_one_f32, Draw.draw_lt]
  have e : h >>> 31#32 = h >>> 31 := BitVec.ushiftRight_eq' ..
  rw [e]
  by_cases h : h >>> 31 = 0#32
  · rw [if_pos h, if_neg (not_not.2 h)]
    rfl
  · rw [if_neg h, if_pos h]
    rfl

/-- The picking and the last operations, from the draws. -/
theorem finished {V : Mem Ideal} {f : S1x16384.Idx → EReal} {p : Fin 16384 → Fin 2} (h : val V υ.v34 = f)
    (hp : ∀ r : Fin 16384, (Ideal.cmp .olt (f (ix2 0 r)) (Ideal.ofBits .f32 0x3F000000#32)).setWidth 32 = BitVec.ofNat 32 (p r).val) :
    val (after lastOps (after pickOps V)) (.of main_v30 : TRef sig ⟨S16384x2, .f32⟩)
      = fun i : S16384x2.Idx => val V (.of main_arg2 : TRef sig ⟨S2x2, .f32⟩) (ix2 (i 1) (p (i 0))) := by
  have hc := (picked h).trans (funext fun i => hp (i 0))
  have hz := picked_zeros V
  have hr := picked_row V
  have hw : after pickOps V (Proc.devRef .tc main_arg2) = V (Proc.devRef .tc main_arg2) := pickOps_kept V (r := main_arg2) (by decide)
  generalize after pickOps V = V' at *
  exact lasted hz hr hc hw

/-- The draws, the picking and the last operations, from the two halves `a` and `b` of the random words. -/
theorem ended {V : Mem Ideal} {a b : S1x16384.Idx → BitVec 32} {p : Fin 16384 → Fin 2}
    (h2 : val V υ.v2 = fun _ => (0 : EReal)) (h3 : val V υ.v3 = fun _ => (1 : EReal)) (ha : val V φ.v171 = a) (hb : val V φ.v175 = b)
    (hp : ∀ r : Fin 16384, p r = if ¬ ((a (ix2 0 r) ^^^ b (ix2 0 r)) >>> 31#32 = 0#32) then (0 : Fin 2) else 1) :
    val (after lastOps (after pickOps (after drawOps V))) (.of main_v30 : TRef sig ⟨S16384x2, .f32⟩)
      = fun i : S16384x2.Idx => val V (.of main_arg2 : TRef sig ⟨S2x2, .f32⟩) (ix2 (i 1) (p (i 0))) := by
  have hd := drawn h2 h3 ha hb
  have hw : val (after drawOps V) (.of main_arg2 : TRef sig ⟨S2x2, .f32⟩) = val V (.of main_arg2 : TRef sig ⟨S2x2, .f32⟩) :=
    drawOps_kept V (r := main_arg2) (by decide)
  generalize after drawOps V = V' at *
  rw [← hw]
  refine finished hd fun r => ?_
  rw [hp]
  exact chosen (a (ix2 0 r) ^^^ b (ix2 0 r))

/-- The draw's bounds before the random words. -/
theorem bounded (V : Mem Ideal) : val (after countOps (after seedOps V)) υ.v2 = (fun _ => (0 : EReal))
    ∧ val (after countOps (after seedOps V)) υ.v3 = fun _ => (1 : EReal) := by
  have hl := seeded_least V
  have hm := seeded_most V
  generalize after seedOps V = V' at *
  have h := counted_bounds hl hm
  exact ⟨h.1.trans (funext fun _ => Ideal.ofBits_zero_f32), h.2.trans (funext fun _ => Ideal.ofBits_one_f32)⟩

/-- The reference's result. -/
theorem after_ops_result (V : Mem Ideal) :
    val (after ops V) (.of main_v30 : TRef sig ⟨S16384x2, .f32⟩)
      = fun i : S16384x2.Idx => val V (.of main_arg2 : TRef sig ⟨S2x2, .f32⟩) (ix2 (i 1) (place (i 0).val)) := by
  obtain ⟨ha, hb, hkeep⟩ := ciphered V
  have hl := bounded V
  have h0 : val (after countOps (after seedOps V)) (.of main_arg2 : TRef sig ⟨S2x2, .f32⟩) = val V (.of main_arg2 : TRef sig ⟨S2x2, .f32⟩) := by
    unfold val
    rw [countOps_kept _ (r := main_arg2) (by decide), seedOps_kept _ (r := main_arg2) (by decide)]
  rw [after_ops, ← h0]
  generalize after countOps (after seedOps V) = V₁ at *
  have hk : ∀ r ∈ [main_arg0, main_arg1, main_arg2, main_call0_v2, main_call0_v3], after cipherOps V₁ (Proc.devRef .tc r) = V₁ (Proc.devRef .tc r) := hkeep
  have h2 : val (after cipherOps V₁) υ.v2 = val V₁ υ.v2 := congrArg (TRef.ofBuf υ.v2) (hk main_call0_v2 (by simp))
  have h3 : val (after cipherOps V₁) υ.v3 = val V₁ υ.v3 := congrArg (TRef.ofBuf υ.v3) (hk main_call0_v3 (by simp))
  have hw : val (after cipherOps V₁) (.of main_arg2 : TRef sig ⟨S2x2, .f32⟩) = val V₁ (.of main_arg2 : TRef sig ⟨S2x2, .f32⟩) :=
    congrArg (TRef.ofBuf (.of main_arg2 : TRef sig ⟨S2x2, .f32⟩)) (hk main_arg2 (by simp))
  generalize after cipherOps V₁ = V₂ at *
  rw [← hw]
  exact ended (p := fun r => place r.val) (h2.trans hl.1) (h3.trans hl.2) ha hb fun r => rfl

/-- The table's entries, each row taking its place in every column of the result. -/
def table (w : S2x2.Idx → EReal) : S16384x2.Idx → EReal := fun i => w (ix2 (i 1) (place (i 0).val))

/-- The reference's run ends with that result and its arguments as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ d : Dev nD,
      r.2.mem ((d.tc : Thread nD τ).loc main_v30) = table (m ((d.tc : Thread nD τ).loc main_arg2))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2) :=
  (θ_run defs _ _).mono
    (fun _ h d => ⟨(h d main_v30).trans (after_ops_result (launchContents m d)), (h d main_arg0).trans (args_kept _ main_arg0 (by simp)),
      (h d main_arg1).trans (args_kept _ main_arg1 (by simp)), (h d main_arg2).trans (args_kept _ main_arg2 (by simp))⟩)
    (run_main m ρ)

/-- The reference runs, its arguments stay, and its counters (it has none) are zero. -/
theorem frame_reference : Cert.quiescent_ReferenceIdeal := fun m ρ _ =>
  (θ_run defs _ _).mono (fun r h => ⟨fun d => (h d).2, sem_eq_zero_of_no_sems (by decide) r.2⟩) (run_reference m ρ)

end Cert.RefRun

end
-- ==== Proof.Value.lean ====
/- The kernel's result over the extended reals: the table's entries, each row taking its place in every column, as the reference's. -/
module

public import proofs.«01_k».proof.Proof.Run
public import proofs.«01_k».proof.Proof.Reference
public import Idealize.ShloMosaic.Lib.StableHlo.ReadAt

@[expose] public section

noncomputable section

namespace Cert.Run

open Idealize.ShloMosaic Idealize.SL.Sem Cert.KernelIdeal Cert.KernelIdeal.Gen Cert.Threefry Cert.Lanes
open Cert.RefRun (table place)

variable (m : (ℓ : Loc nD τ sig) → Buf (Elt Ideal) ℓ) (d : Dev nD)

/-- The padded table as one term of the table. -/
theorem padded_eq : padded m d
    = concatenate S16 0 [⟨S4, shapeCast S4 (m (at2 d) : S2x2.Idx → EReal) shapeCasts_S2x2_S4⟩,
        ⟨S12, broadcastInDim S12 ![] bcast_S_S12 (constant (F := Ideal) S_ .f32 0x00000000#32)⟩] concatenates_S4_S12_S16_d0 := by
  unfold padded V1 padOps
  after_results_simp
  rfl

/-- Its entry in row `a`, column `b` of the table. -/
theorem padded_entry (a b : Fin 2) : (padded m d : S16.Idx → EReal) (ix1 ⟨2 * a.val + b.val, by omega⟩) = (m (at2 d) : S2x2.Idx → EReal) (ix2 a b) := by
  rw [padded_eq m d]
  generalize (m (at2 d) : S2x2.Idx → EReal) = w
  fin_cases a <;> fin_cases b <;> pointwise

/-- The entry chosen is the table's own. -/
theorem entry_padded (a b : Fin 2) : entry (F := Ideal) (padded m d) ⟨2 * a.val + b.val, by omega⟩ = (m (at2 d) : S2x2.Idx → EReal) (ix2 a b) := by
  rw [← padded_entry m d a b]
  exact (congrArg (· + _) Ideal.ofBits_zero_f32).trans (zero_add _)

/-- The kernel's result is the reference's. -/
theorem result_eq : result m d = table (m (at2 d)) := by
  have h (p : Fin 2) (r : Nat) : cell (F := Ideal) (padded m d) p r = (m (at2 d) : S2x2.Idx → EReal) (ix2 p (place r)) := by
    unfold cell place
    split
    · exact entry_padded m d p 0
    · exact entry_padded m d p 1
  funext i
  exact (transpose_apply _ _ _ i (ix2 (i 1) (i 0)) (fun b => by fin_cases b <;> rfl)).trans (h (i 1) (i 0).val)

end Cert.Run

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs over the machine's floats, its arguments stay, and its counters end at zero. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Cert.Run.run_main (F := Bits) m ρ)

/-- So it does over the extended reals. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (Cert.Run.run_main (F := Ideal) m ρ)

/-- From equal arguments the kernel and the reference end with one result, the table read by each row's place. -/
theorem algebraic : Cert.algebraic_KernelIdeal_ReferenceIdeal := fun m ρ m' ρ' _ hargs =>
  ⟨fun c => Cert.RefRun.table (m (Cert.Run.at2 c)),
    (θ_run Cert.KernelIdeal.defs _ _).mono
      (fun _ h c => ⟨(h.1 c).2.2.2.trans (Cert.Run.result_eq m c), (h.1 c).1, (h.1 c).2.1, (h.1 c).2.2.1⟩) (Cert.Run.run_main (F := Ideal) m ρ),
    (θ_run Cert.ReferenceIdeal.defs _ _).mono
      (fun _ h c => ⟨(h c).1.trans (congrArg Cert.RefRun.table (hargs c).2.2), (h c).2⟩) (Cert.RefRun.run_reference m' ρ')⟩

theorem claim : Cert.Claim := ⟨Cert.Kernel.Gen.facts, Cert.KernelIdeal.Gen.facts, Cert.ReferenceIdeal.Gen.facts, by
  exact ⟨frame_kernel, frame_kernelIdeal, Cert.RefRun.frame_reference, trivial, algebraic⟩⟩

end Cert.Proof

end
